-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S4096x256 : Shape := ⟨2, ![4096, 256]⟩
abbrev S_ : Shape := ⟨0, ![]⟩
abbrev S4096 : Shape := ⟨1, ![4096]⟩
abbrev S1x256 : Shape := ⟨2, ![1, 256]⟩
abbrev S4095x256 : Shape := ⟨2, ![4095, 256]⟩
abbrev S4095 : Shape := ⟨1, ![4095]⟩
abbrev S1 : Shape := ⟨1, ![1]⟩

class Facts : Prop where
  reducesTo_S4096x256_S4096_d1 : S4096x256.ReducesTo [1] S4096
  h_S_ : 0 < S_.numel
  slices_S4096x256_S1x256_0_0 : S4096x256.Slices ![0, 0] S1x256
  slices_S4096x256_S4095x256_1_0 : S4096x256.Slices ![1, 0] S4095x256
  bcast_S1x256_S4095x256_0_1 : S1x256.BroadcastsInDim S4095x256 (![0, 1] : Fin 2 → Fin S4095x256.rank)
  reducesTo_S4095x256_S4095_d1 : S4095x256.ReducesTo [1] S4095
  bcast_S_S4096 : S_.BroadcastsInDim S4096 (![] : Fin 0 → Fin S4096.rank)
  reducesTo_S4096_S_d0 : S4096.ReducesTo [0] S_
  slices_S4096_S1_0 : S4096.Slices ![0] S1
  slices_S4096_S4095_1 : S4096.Slices ![1] S4095
  bcast_S1_S4095_0 : S1.BroadcastsInDim S4095 (![0] : Fin 1 → Fin S4095.rank)
  reducesTo_S4095_S_d0 : S4095.ReducesTo [0] S_

variable [Facts]

def fn_norm {F : FTy → Type} [FloatOps F] (arg0 : FVec F S4096x256 .f32) : FVec F S4096 .f32 :=
  let v0 : FVec F S4096x256 .f32 := mulf arg0 arg0
  let cst : FVec F S_ .f32 := constant S_ .f32 0x00000000#32
  let v1 : FVec F S4096 .f32 := (fun x v => Host.reduceAdd x v reducesTo_S4096x256_S4096_d1 h_S_) v0 cst
  let v2 : FVec F S4096 .f32 := Host.sqrt v1
  v2

def fn_part1 {F : FTy → Type} [FloatOps F] (main_v11 : IVec S_ 1) (main_v18 : IVec S_ 1) : IVec S_ 1 :=
  let main_v19 : IVec S_ 1 := andi main_v11 main_v18
  main_v19

def fn {F : FTy → Type} [FloatOps F] (main_arg0 : FVec F S4096x256 .f32) : IVec S_ 1 :=
  let main_v0 : FVec F S4096 .f32 := fn_norm (F := F) main_arg0
  let main_v1 : FVec F S1x256 .f32 := (extractStridedSlice S1x256 ![0, 0] · slices_S4096x256_S1x256_0_0) main_arg0
  let main_v2 : FVec F S4095x256 .f32 := (extractStridedSlice S4095x256 ![1, 0] · slices_S4096x256_S4095x256_1_0) main_arg0
  let main_v3 : FVec F S4095x256 .f32 := broadcastInDim S4095x256 ![0, 1] bcast_S1x256_S4095x256_0_1 main_v1
  let main_v4 : FVec F S4095x256 .f32 := mulf main_v3 main_v2
  let main_cst : FVec F S_ .f32 := constant S_ .f32 0x00000000#32
  let main_v5 : FVec F S4095 .f32 := (fun x v => Host.reduceAdd x v reducesTo_S4095x256_S4095_d1 h_S_) main_v4 main_cst
  let main_cst_0 : FVec F S_ .f32 := constant S_ .f32 0x322BCC77#32
  let main_v6 : FVec F S4096 .f32 := broadcastInDim S4096 ![] bcast_S_S4096 main_cst_0
  let main_v7 : IVec S4096 1 := cmpf .oge main_v0 main_v6
  let main_cst_1 : FVec F S_ .f32 := constant S_ .f32 0x7F800000#32
  let main_v8 : FVec F S4096 .f32 := broadcastInDim S4096 ![] bcast_S_S4096 main_cst_1
  let main_v9 : IVec S4096 1 := cmpf .olt main_v0 main_v8
  let main_v10 : IVec S4096 1 := andi main_v7 main_v9
  let main_c : IVec S_ 1 := constantI S_ 1 1#1
  let main_v11 : IVec S_ 1 := (fun x v => Host.reduce IntOp.andi x v reducesTo_S4096_S_d0 h_S_) main_v10 main_c
  let main_v12 : FVec F S1 .f32 := (extractStridedSlice S1 ![0] · slices_S4096_S1_0) main_v0
  let main_v13 : FVec F S4095 .f32 := (extractStridedSlice S4095 ![1] · slices_S4096_S4095_1) main_v0
  let main_v14 : FVec F S4095 .f32 := broadcastInDim S4095 ![0] bcast_S1_S4095_0 main_v12
  let main_v15 : FVec F S4095 .f32 := mulf main_v14 main_v13
  let main_v16 : FVec F S4095 .f32 := Host.negf main_v15
  let main_v17 : IVec S4095 1 := cmpf .ogt main_v5 main_v16
  let main_c_2 : IVec S_ 1 := constantI S_ 1 0#1
  let main_v18 : IVec S_ 1 := (fun x v => Host.reduce IntOp.ori x v reducesTo_S4095_S_d0 h_S_) main_v17 main_c_2
  fn_part1 (F := F) main_v11 main_v18
-- ==== Kernel.lean ====
abbrev S4096x256 : Shape := ⟨2, ![4096, 256]⟩
abbrev S1x1 : Shape := ⟨2, ![1, 1]⟩
abbrev S2048x256 : Shape := ⟨2, ![2048, 256]⟩
abbrev S2048x1 : Shape := ⟨2, ![2048, 1]⟩
abbrev S256x1 : Shape := ⟨2, ![256, 1]⟩
abbrev S2048x2048 : Shape := ⟨2, ![2048, 2048]⟩
abbrev S2048x128 : Shape := ⟨2, ![2048, 128]⟩
abbrev S2048 : Shape := ⟨1, ![2048]⟩
abbrev S1x2048 : Shape := ⟨2, ![1, 2048]⟩
abbrev S1x2048x1 : Shape := ⟨3, ![1, 2048, 1]⟩
abbrev S1 : Shape := ⟨1, ![1]⟩
abbrev S1x1x1 : Shape := ⟨3, ![1, 1, 1]⟩

abbrev nBuf : Space → Nat
  | .hbm => 2
  | .vmem => 4
  | .smem => 1
  | _ => 0

abbrev bufTy : (tb : Table) → Fin (tcTables nBuf tb) → BufTy
  | .hbm, ⟨0, _⟩ => ⟨S4096x256, .f32⟩
  | .hbm, ⟨1, _⟩ => ⟨S1x1, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x1, .f32⟩
  | .local _ .smem, ⟨0, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x2 : Shape := ⟨2, ![4096, 2]⟩
abbrev S4096x1x1 : Shape := ⟨3, ![4096, 1, 1]⟩
abbrev S4096x1x256 : Shape := ⟨3, ![4096, 1, 256]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x256, .f32⟩
  | .hbm, ⟨10, _⟩ => ⟨S4096x256, .f32⟩
  | .hbm, ⟨11, _⟩ => ⟨S256x4096, .f32⟩
  | .hbm, ⟨12, _⟩ => ⟨S4096x4096, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x1, .i32⟩
  | .hbm, ⟨30, _⟩ => ⟨S4096x2, .i32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S4096x1, .f32⟩
  | .hbm, ⟨35, _⟩ => ⟨S4096x1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S_, .i32⟩
  | .hbm, ⟨40, _⟩ => ⟨S4096x1, .i32⟩
  | .hbm, ⟨41, _⟩ => ⟨S4096x1, .i32⟩
  | .hbm, ⟨42, _⟩ => ⟨S4096x1, .i32⟩
  | .hbm, ⟨43, _⟩ => ⟨S4096x1x1, .i32⟩
  | .hbm, ⟨44, _⟩ => ⟨S4096x1x256, .f32⟩
  | .hbm, ⟨45, _⟩ => ⟨S4096x1x256, .f32⟩
  | .hbm, ⟨46, _⟩ => ⟨S4096x1x256, .f32⟩
  | .hbm, ⟨47, _⟩ => ⟨S4096x1x256, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1x1, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_values : Ref sig .tc := ⟨.hbm, 34, rfl⟩
abbrev main_indices : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Loss.lean ====
/-
  The quantities both programs compute, written once over the extended reals: a row divided by its norm (kept away from
  zero), the table of dot products with the diagonal overwritten, the logarithm of the distance a greatest dot product
  stands for.
-/
module

public import Idealize.ShloMosaic.Lib.IdealHost

@[expose] public section

noncomputable section

open Idealize.ShloMosaic
open scoped BigOperators

namespace Cert.Koleo

/-- The small constant both programs keep norms and distances away from zero with. -/
def eps : EReal := Ideal.ofBits .f32 0x322BCC77#32

/-- The small constant as a rational number. -/
def epsR : ℝ := 11258999 / 2 ^ 50

/-- The small constant is that rational number. -/
theorem eps_eq : eps = (epsR : EReal) := by
  unfold eps epsR
  simp [Ideal.ofBits, Ideal.ieee, -EReal.coe_mul]
  norm_num

/-- The small constant is positive. -/
theorem epsR_pos : 0 < epsR := by unfold epsR; norm_num

/-- The bit pattern of two. -/
theorem ofBits_two : Ideal.ofBits .f32 0x40000000#32 = ((2 : ℝ) : EReal) := by
  simp [Ideal.ofBits, Ideal.ieee, -EReal.coe_mul]; norm_num

/-- The bit pattern of minus one. -/
theorem ofBits_neg_one : Ideal.ofBits .f32 0xBF800000#32 = ((-1 : ℝ) : EReal) := by
  simp [Ideal.ofBits, Ideal.ieee, -EReal.coe_mul, -EReal.coe_neg]; norm_num

/-- The bit pattern of 4096. -/
theorem ofBits_4096 : Ideal.ofBits .f32 0x45800000#32 = ((4096 : ℝ) : EReal) := by
  simp [Ideal.ofBits, Ideal.ieee, -EReal.coe_mul]; norm_num

/-- The bit pattern of 1/4096. -/
theorem ofBits_inv_4096 : Ideal.ofBits .f32 0x39800000#32 = ((1 / 4096 : ℝ) : EReal) := by
  simp [Ideal.ofBits, Ideal.ieee, -EReal.coe_mul]; norm_num

/-- The bit pattern of minus infinity is the least extended real. -/
theorem ofBits_bot : Ideal.ofBits .f32 0xFF800000#32 = ⊥ := by
  simp [Ideal.ofBits, Ideal.ieee]

/-- The bit pattern of plus infinity is the greatest extended real. -/
theorem ofBits_top : Ideal.ofBits .f32 0x7F800000#32 = ⊤ := by
  simp [Ideal.ofBits, Ideal.ieee]

/-- The norm of a vector, kept at or above the small constant: what a row is divided by. -/
def bound (v : Fin 256 → EReal) : EReal := max (Ideal.sqrt (∑ k, v k * v k)) eps

/-- A row divided by its bounded norm. -/
def unit (v : Fin 256 → EReal) (k : Fin 256) : EReal := Ideal.div (v k) (bound v)

/-- The bounded norm is not zero. -/
theorem bound_ne_zero (v : Fin 256 → EReal) : bound v ≠ 0 := by
  have h : (0 : EReal) < bound v := lt_of_lt_of_le (by rw [eps_eq]; exact_mod_cast epsR_pos) (le_max_right _ _)
  exact h.ne'

/-- Multiplying by the reciprocal of the bounded norm is dividing by it. -/
theorem mul_recip_bound (v : Fin 256 → EReal) (k : Fin 256) : v k * Ideal.div 1 (bound v) = unit v k :=
  Ideal.mul_one_div (bound_ne_zero v)

/-- The dot product of two rows. -/
def dot (v w : Fin 256 → EReal) : EReal := ∑ k, v k * w k

/-- The dot product does not depend on the order of the two rows. -/
theorem dot_comm (v w : Fin 256 → EReal) : dot v w = dot w v := Finset.sum_congr rfl fun k _ => mul_comm _ _

/-- The table of dot products of the normalised rows of `x`, the diagonal overwritten by minus one. -/
def sims (x : Fin 4096 → Fin 256 → EReal) (i j : Fin 4096) : EReal :=
  if i = j then ((-1 : ℝ) : EReal) else dot (unit (x i)) (unit (x j))

/-- The logarithm of the distance for which the greatest dot product `m` stands. -/
def logDist (m : EReal) : EReal := Ideal.log (Ideal.sqrt (max (((2 : ℝ) : EReal) - ((2 : ℝ) : EReal) * m) 0) + eps)

/-- What the kernel computes of the rows `x`: minus the mean over the rows of the logarithm of the distance for which the
    greatest entry of the row of the table stands. -/
def kernelLoss (x : Fin 4096 → Fin 256 → EReal) : EReal :=
  (0 - ∑ i, logDist (⨆ j, sims x i j)) * ((1 / 4096 : ℝ) : EReal)

end Cert.Koleo

end
-- ==== Proof.KernelStep.lean ====
/-
  What the kernel's pure operations compute at the ideal values: the normalised rows of one block, the table of dot
  products of two blocks, the greatest entry of each row taken in sixteen lane groups, and the sum of logarithms.
-/
module

public import proofs.«01_k».proof.Proof.Gen.KernelIdeal.Skeleton
public import proofs.«01_k».proof.Proof.Loss
public import Idealize.ShloMosaic.Lib.MatmulPlain
public import Idealize.ShloMosaic.Lib.Pipeline.Value

@[expose] public section

noncomputable section

open Idealize.ShloMosaic Idealize.ShloMosaic.ValueIdx
open scoped BigOperators

namespace Cert.Koleo

open Cert.KernelIdeal Cert.KernelIdeal.Gen

/-- Row `r` of a block of 2048 rows. -/
def blockRow {φ : FTy} (v : FVec Ideal S2048x256 φ) (r : Fin 2048) : Fin 256 → EReal := fun k => v (ix2 r k)

/-- The normalised block at an index: the row there divided by its bounded norm. -/
theorem pay3_apply (v : FVec Ideal S2048x256 .f32) (r : Fin 2048) (k : Fin 256) :
    k0_pay3 (F := Ideal) v (ix2 r k) = unit (blockRow v r) k := by
  unfold k0_pay3
  rw [truncf_apply, mulf_apply,
    broadcastTo_apply _ _ (ix2 r k) (ix2 r (0 : Fin 1)) (fun a => by match a with | ⟨0, _⟩ => rfl | ⟨1, _⟩ => rfl),
    divf_apply, maximumf_apply]
  have hm : matmul (F := Ideal) dot_S2048x256_S256x1_S2048x1_1_0_0_1_n_n none
      (truncf .bf16 (mulf v v) bitsLt_bf16_f32) (broadcast S256x1 (Scalar.ofBits .bf16 0x3F80#16))
      (constant S2048x1 .f32 0x00000000#32) (ix2 r (0 : Fin 1)) = ∑ k, blockRow v r k * blockRow v r k := by
    refine (Ideal.matmul_plain_apply (M := 2048) (K := 256) (N := 1) none _ _ _ r 0).trans ?_
    rw [constant_apply, Ideal.ofBits_zero_f32, zero_add]
    refine Finset.sum_congr rfl fun k _ => ?_
    show v (ix2 r k) * v (ix2 r k) * Ideal.ofBits .bf16 0x3F80#16 = _
    rw [Ideal.ofBits_one_bf16, mul_one]
    rfl
  rw [← mul_recip_bound]
  show v (ix2 r k) * Ideal.div (Ideal.ofBits .f32 0x3F800000#32)
    (max (Ideal.sqrt (matmul (F := Ideal) dot_S2048x256_S256x1_S2048x1_1_0_0_1_n_n none
      (truncf .bf16 (mulf v v) bitsLt_bf16_f32) (broadcast S256x1 (Scalar.ofBits .bf16 0x3F80#16))
      (constant S2048x1 .f32 0x00000000#32) (ix2 r (0 : Fin 1)))) (Ideal.ofBits .f32 0x322BCC77#32)) = _
  rw [hm, Ideal.ofBits_one_f32]
  rfl

/-- A block of dot products at an index: the dot product of the two rows. -/
theorem dots_apply (v w : FVec Ideal S2048x256 .bf16) (r c : Fin 2048) :
    matmul (F := Ideal) dot_S2048x256_S2048x256_S2048x2048_1_1_0_0_n_n none v w (constant S2048x2048 .f32 0x00000000#32) (ix2 r c)
      = dot (blockRow v r) (blockRow w c) := by
  refine (Ideal.matmul_transposedRhs_apply (M := 2048) (K := 256) (N := 2048) none _ _ _ r c).trans ?_
  rw [constant_apply, Ideal.ofBits_zero_f32, zero_add]
  rfl

/-- The rows of the normalised block. -/
theorem blockRow_pay3 (v : FVec Ideal S2048x256 .f32) (r : Fin 2048) :
    blockRow (k0_pay3 (F := Ideal) v) r = unit (blockRow v r) := funext fun k => pay3_apply v r k

/-- The masked table of one block against itself at an index. -/
theorem pay5_apply (v : FVec Ideal S2048x256 .f32) (r c : Fin 2048) :
    k0_pay5 (F := Ideal) v (ix2 r c)
      = if r = c then ((-1 : ℝ) : EReal) else dot (unit (blockRow v r)) (unit (blockRow v c)) := by
  unfold k0_pay5
  dsimp only
  rw [select_apply, dots_apply, blockRow_pay3, blockRow_pay3]
  show Scalar.select (IntOp.cmpi .eq (iota .tc S2048x2048 32 [0] iota_S2048x2048_d0_w32 (ix2 r c))
    (iota .tc S2048x2048 32 [1] iota_S2048x2048_d1_w32 (ix2 r c))) (Ideal.ofBits .f32 0xBF800000#32) _ = _
  rw [iota_single_apply, iota_single_apply, ofBits_neg_one]
  have hiff : (BitVec.ofNat 32 r.val = BitVec.ofNat 32 c.val) ↔ r = c := by
    rw [← BitVec.toNat_inj, BitVec.toNat_ofNat, BitVec.toNat_ofNat, Nat.mod_eq_of_lt (by omega), Nat.mod_eq_of_lt (by omega)]
    exact Fin.val_inj
  show Scalar.select (BitVec.ofBool (decide (BitVec.ofNat 32 r.val = BitVec.ofNat 32 c.val))) _ _ = _
  by_cases h : r = c
  · rw [decide_eq_true (hiff.2 h), if_pos h]; rfl
  · rw [decide_eq_false (fun e => h (hiff.1 e)), if_neg h]; rfl

/-- The second step's normalised block is the first step's function. -/
theorem pay11_eq (v : FVec Ideal S2048x256 .f32) : k0_pay11 (F := Ideal) v = k0_pay3 v := rfl

/-- The second step's masked table is the first step's function. -/
theorem pay14_eq (v : FVec Ideal S2048x256 .f32) : k0_pay14 (F := Ideal) v = k0_pay5 v := rfl

/-- The table of the second block against the stored first block at an index. -/
theorem pay12_apply (v : FVec Ideal S2048x256 .f32) (w : FVec Ideal S2048x256 .bf16) (r c : Fin 2048) :
    k0_pay12 (F := Ideal) v w (ix2 r c) = dot (unit (blockRow v r)) (blockRow w c) := by
  unfold k0_pay12
  rw [dots_apply, pay11_eq, blockRow_pay3]

/-- A slice of 128 columns at an index. -/
theorem slice_apply (o : ℕ) (T : FVec Ideal S2048x2048 .f32) (h : S2048x2048.Slices ![0, o] S2048x128) (r : Fin 2048) (l : Fin 128)
    (ho : o + l.val < 2048) : extractStridedSlice S2048x128 ![0, o] T h (ix2 r l) = T (ix2 r ⟨o + l.val, ho⟩) :=
  extractStridedSlice_apply _ T h _ _ fun a => by
    match a with
    | ⟨0, _⟩ => exact (Nat.zero_add _).symm
    | ⟨1, _⟩ => rfl

/-- A row's maximum over the 128 lanes of a block, against an upper bound. -/
theorem laneMax_le (w : FVec Ideal S2048x128 .f32) (hφ : FKind.Formats .f32) (hacc : (0xFF800000#32 : BitVec 32) = FKind.maximumf.neutral .f32 hφ)
    (r : Fin 2048) (z : EReal) :
    multiReduction (F := Ideal) .maximumf [1] S2048 w 0xFF800000#32 reduces_S2048x128_S2048 hφ hacc (ix1 r) ≤ z
      ↔ ∀ l : Fin 128, w (ix2 r l) ≤ z := by
  rw [Ideal.multiReduction_maximumf_single]
  have e : (w ∘ reduces_S2048x128_S2048.lift (ix1 r)) = fun l : Fin 128 => w (ix2 r l) :=
    funext fun l => congrArg w (funext fun a => by match a with | ⟨0, _⟩ => rfl | ⟨1, _⟩ => rfl)
  rw [e]
  refine (Finset.fold_max_le (b := Ideal.ofBits .f32 0xFF800000#32) (f := fun l : Fin 128 => w (ix2 r l)) (s := Finset.univ) z).trans ?_
  rw [ofBits_bot]
  simp

/-- The greatest entry of each column of a table. -/
theorem colMax_eq (T : FVec Ideal S2048x2048 .f32) (hφ : FKind.Formats .f32) (hacc : (0xFF800000#32 : BitVec 32) = FKind.maximumf.neutral .f32 hφ)
    (c : Fin 2048) :
    multiReduction (F := Ideal) .maximumf [0] S2048 T 0xFF800000#32 reduces_S2048x2048_S2048 hφ hacc (ix1 c)
      = ⨆ r : Fin 2048, T (ix2 r c) := by
  refine eq_of_forall_ge_iff fun z => ?_
  rw [Ideal.multiReduction_maximumf_single]
  have e : (T ∘ reduces_S2048x2048_S2048.lift (ix1 c)) = fun l : Fin 2048 => T (ix2 l c) :=
    funext fun l => congrArg T (funext fun a => by match a with | ⟨0, _⟩ => rfl | ⟨1, _⟩ => rfl)
  rw [e, iSup_le_iff]
  refine (Finset.fold_max_le (b := Ideal.ofBits .f32 0xFF800000#32) (f := fun l : Fin 2048 => T (ix2 l c)) (s := Finset.univ) z).trans ?_
  rw [ofBits_bot]
  simp

/-- Every column of a table of 2048 columns lies in one of the sixteen groups of 128 lanes. -/
theorem forall_lanes (P : Fin 2048 → Prop) :
    (∀ c, P c) ↔ ∀ l : Fin 128, ∀ g : Fin 16, P ⟨g.val * 128 + l.val, by omega⟩ := by
  refine ⟨fun h l g => h _, fun h c => ?_⟩
  have := h ⟨c.val % 128, Nat.mod_lt _ (by omega)⟩ ⟨c.val / 128, by omega⟩
  have e : (⟨c.val / 128 * 128 + c.val % 128, by omega⟩ : Fin 2048) = c := Fin.ext (Nat.div_add_mod' _ _)
  exact e ▸ this

/-- A property of every one of the sixteen groups, one group at a time. -/
theorem forall_sixteen (Q : Fin 16 → Prop) : (∀ g, Q g) ↔ (Q 0 ∧ Q 1 ∧ Q 2 ∧ Q 3 ∧ Q 4 ∧ Q 5 ∧ Q 6 ∧ Q 7 ∧ Q 8 ∧ Q 9 ∧ Q 10 ∧ Q 11
    ∧ Q 12 ∧ Q 13 ∧ Q 14 ∧ Q 15) := by
  refine ⟨fun h => ⟨h 0, h 1, h 2, h 3, h 4, h 5, h 6, h 7, h 8, h 9, h 10, h 11, h 12, h 13, h 14, h 15⟩, ?_⟩
  rintro ⟨h0, h1, h2, h3, h4, h5, h6, h7, h8, h9, h10, h11, h12, h13, h14, h15⟩ g
  fin_cases g <;> assumption

/-- The lane-group maxima the kernel takes of a table, as one vector of 128 lanes per row (in the order the second step takes them
    for the block it holds). -/
def lanes (T : FVec Ideal S2048x2048 .f32) : FVec Ideal S2048x128 .f32 :=
  maximumf (maximumf (k0_pay19 T) (k0_pay20 T)) (maximumf (k0_pay21 T) (maximumf (k0_pay17 T) (k0_pay18 T)))

/-- A lane of that vector is below a bound exactly when the sixteen entries it stands for are. -/
theorem lanes_le (T : FVec Ideal S2048x2048 .f32) (r : Fin 2048) (l : Fin 128) (z : EReal) :
    lanes T (ix2 r l) ≤ z ↔ ∀ g : Fin 16, T (ix2 r ⟨g.val * 128 + l.val, by omega⟩) ≤ z := by
  rw [forall_sixteen]
  unfold lanes k0_pay17 k0_pay18 k0_pay19 k0_pay20 k0_pay21
  simp only [maximumf_apply]
  repeat rw [slice_apply _ T _ r l (by omega)]
  simp only [max_le_iff]
  show _ ↔ T (ix2 r ⟨0 * 128 + l.val, _⟩) ≤ z ∧ T (ix2 r ⟨1 * 128 + l.val, _⟩) ≤ z ∧ T (ix2 r ⟨2 * 128 + l.val, _⟩) ≤ z
    ∧ T (ix2 r ⟨3 * 128 + l.val, _⟩) ≤ z ∧ T (ix2 r ⟨4 * 128 + l.val, _⟩) ≤ z ∧ T (ix2 r ⟨5 * 128 + l.val, _⟩) ≤ z
    ∧ T (ix2 r ⟨6 * 128 + l.val, _⟩) ≤ z ∧ T (ix2 r ⟨7 * 128 + l.val, _⟩) ≤ z ∧ T (ix2 r ⟨8 * 128 + l.val, _⟩) ≤ z
    ∧ T (ix2 r ⟨9 * 128 + l.val, _⟩) ≤ z ∧ T (ix2 r ⟨10 * 128 + l.val, _⟩) ≤ z ∧ T (ix2 r ⟨11 * 128 + l.val, _⟩) ≤ z
    ∧ T (ix2 r ⟨12 * 128 + l.val, _⟩) ≤ z ∧ T (ix2 r ⟨13 * 128 + l.val, _⟩) ≤ z ∧ T (ix2 r ⟨14 * 128 + l.val, _⟩) ≤ z
    ∧ T (ix2 r ⟨15 * 128 + l.val, _⟩) ≤ z
  simp only [Nat.reduceMul]
  tauto

/-- The greatest entry of a row of a table, as the kernel takes it: sixteen lane groups first, then the lanes. -/
theorem rowMax_eq (T : FVec Ideal S2048x2048 .f32) (hφ : FKind.Formats .f32) (hacc : (0xFF800000#32 : BitVec 32) = FKind.maximumf.neutral .f32 hφ)
    (r : Fin 2048) :
    multiReduction (F := Ideal) .maximumf [1] S2048 (lanes T) 0xFF800000#32 reduces_S2048x128_S2048 hφ hacc (ix1 r)
      = ⨆ c : Fin 2048, T (ix2 r c) := by
  refine eq_of_forall_ge_iff fun z => ?_
  rw [laneMax_le, iSup_le_iff, forall_lanes]
  exact forall_congr' fun l => lanes_le T r l z

end Cert.Koleo

end
-- ==== Proof.KernelBody.lean ====
/-
  What the kernel body's two steps leave, at the ideal values: the first step's greatest entries of its own block, the second
  step's sums of logarithms, and the number it writes.
-/
module

public import proofs.«01_k».proof.Proof.KernelStep

@[expose] public section

noncomputable section

open Idealize.ShloMosaic Idealize.ShloMosaic.ValueIdx
open scoped BigOperators

namespace Cert.Koleo

open Cert.KernelIdeal Cert.KernelIdeal.Gen

/-- A vector of 2048 numbers stood up as a column reads the vector. -/
theorem column_apply (x : FVec Ideal S2048 .f32) (r : Fin 2048) :
    shapeCast S2048x1 x shapeCasts_S2048_S2048x1 (ix2 r (0 : Fin 1)) = x (ix1 r) :=
  shapeCast_apply _ _ _ _ (by
    rw [Shape.rowMajor_val_one, Shape.rowMajor_val_two]
    show r.val = r.val * 1 + 0
    omega)

/-- What the first step stores of the greatest entries: row `r`'s greatest entry of the masked table of the block. -/
theorem firstMax_apply (v : FVec Ideal S2048x256 .f32) (r : Fin 2048) :
    k0_pay1 (F := Ideal) (k0_pay6 v) (k0_pay7 v) (k0_pay8 v) (k0_pay9 v) (k0_pay10 v) (ix2 r (0 : Fin 1))
      = ⨆ c : Fin 2048, k0_pay5 (F := Ideal) v (ix2 r c) := by
  unfold k0_pay1
  rw [shapeCast_self, column_apply]
  exact rowMax_eq (k0_pay5 v) (.inl rfl) rfl r

/-- The second step's greatest entry of row `r` of the table against the stored block. -/
theorem crossMax_apply (v : FVec Ideal S2048x256 .f32) (w : FVec Ideal S2048x256 .bf16) (r : Fin 2048) :
    k0_pay16 (F := Ideal) (k0_pay12 v w) (k0_pay15 v w) (ix2 r (0 : Fin 1)) = ⨆ c : Fin 2048, k0_pay12 (F := Ideal) v w (ix2 r c) := by
  refine eq_of_forall_ge_iff fun z => ?_
  unfold k0_pay16 k0_pay15
  rw [column_apply, iSup_le_iff, forall_lanes]
  refine (laneMax_le _ (.inl rfl) rfl r z).trans (forall_congr' fun l => ?_)
  generalize k0_pay12 (F := Ideal) v w = T
  rw [forall_sixteen]
  simp only [maximumf_apply]
  repeat rw [slice_apply _ T _ r l (by omega)]
  simp only [max_le_iff]
  show _ ↔ T (ix2 r ⟨0 * 128 + l.val, _⟩) ≤ z ∧ T (ix2 r ⟨1 * 128 + l.val, _⟩) ≤ z ∧ T (ix2 r ⟨2 * 128 + l.val, _⟩) ≤ z
    ∧ T (ix2 r ⟨3 * 128 + l.val, _⟩) ≤ z ∧ T (ix2 r ⟨4 * 128 + l.val, _⟩) ≤ z ∧ T (ix2 r ⟨5 * 128 + l.val, _⟩) ≤ z
    ∧ T (ix2 r ⟨6 * 128 + l.val, _⟩) ≤ z ∧ T (ix2 r ⟨7 * 128 + l.val, _⟩) ≤ z ∧ T (ix2 r ⟨8 * 128 + l.val, _⟩) ≤ z
    ∧ T (ix2 r ⟨9 * 128 + l.val, _⟩) ≤ z ∧ T (ix2 r ⟨10 * 128 + l.val, _⟩) ≤ z ∧ T (ix2 r ⟨11 * 128 + l.val, _⟩) ≤ z
    ∧ T (ix2 r ⟨12 * 128 + l.val, _⟩) ≤ z ∧ T (ix2 r ⟨13 * 128 + l.val, _⟩) ≤ z ∧ T (ix2 r ⟨14 * 128 + l.val, _⟩) ≤ z
    ∧ T (ix2 r ⟨15 * 128 + l.val, _⟩) ≤ z
  simp only [Nat.reduceMul]
  tauto

/-- The sum over a block's rows of the logarithm of the distance, as the kernel writes it over a column of greatest entries. -/
def logSum (m : FVec Ideal S2048x1 .f32) : Ideal .f32 :=
  extractAt ![0, 0, 0] (shapeCast S1x1x1 (multiReduction .add [1, 2] S1 (shapeCast S1x2048x1
    (log (addf (sqrt (maximumf (subf (broadcast S2048x1 (Scalar.ofBits .f32 0x40000000#32))
      (mulf (broadcast S2048x1 (Scalar.ofBits .f32 0x40000000#32)) m)) (broadcast S2048x1 (Scalar.ofBits .f32 0x00000000#32))))
      (broadcast S2048x1 (Scalar.ofBits .f32 0x322BCC77#32)))) shapeCasts_S2048x1_S1x2048x1)
    0x00000000#32 reduces_S1x2048x1_S1 (.inl rfl) rfl) shapeCasts_S1_S1x1x1) inpos_S1x1x1_p0_0_0

/-- An index of a block of one plane, 2048 rows and one column is its row. -/
def rowEquiv : Fin 2048 ≃ S1x2048x1.Idx where
  toFun r := ix3 (0 : Fin 1) r (0 : Fin 1)
  invFun j := j 1
  left_inv _ := rfl
  right_inv j := by
    funext a
    match a with
    | ⟨0, _⟩ => exact Subsingleton.elim (α := Fin 1) _ _
    | ⟨1, _⟩ => rfl
    | ⟨2, _⟩ => exact Subsingleton.elim (α := Fin 1) _ _

/-- That sum is the sum over the rows of the logarithm of the distance. -/
theorem logSum_eq (m : FVec Ideal S2048x1 .f32) : logSum m = ∑ r : Fin 2048, logDist (m (ix2 r (0 : Fin 1))) := by
  unfold logSum extractAt
  rw [shapeCast_apply _ _ _ (ix1 (0 : Fin 1)) (by rw [Shape.rowMajor_val_one, Shape.rowMajor_val_three]; rfl)]
  refine (Ideal.multiReduction_add_total _ _ reduces_S1x2048x1_S1 (fun b => by match b with | ⟨0, _⟩ => rfl) (.inl rfl) rfl _).trans ?_
  rw [← Equiv.sum_comp rowEquiv]
  refine Finset.sum_congr rfl fun r _ => ?_
  rw [shapeCast_apply _ _ (rowEquiv r) (ix2 r (0 : Fin 1)) (by
    rw [Shape.rowMajor_val_two, Shape.rowMajor_val_three]
    show r.val * 1 + 0 = (0 * 2048 + r.val) * 1 + 0
    omega)]
  show Ideal.log (Ideal.sqrt (max (Ideal.ofBits .f32 0x40000000#32 - Ideal.ofBits .f32 0x40000000#32 * m (ix2 r (0 : Fin 1)))
    (Ideal.ofBits .f32 0x00000000#32)) + Ideal.ofBits .f32 0x322BCC77#32) = _
  rw [ofBits_two, Ideal.ofBits_zero_f32]
  rfl

/-- A vector of 2048 numbers laid down as a row and stood up as a column reads the vector. -/
theorem rowColumn_apply (x : FVec Ideal S2048 .f32) (r : Fin 2048) :
    shapeCast S2048x1 (shapeCast S1x2048 x shapeCasts_S2048_S1x2048) shapeCasts_S1x2048_S2048x1 (ix2 r (0 : Fin 1)) = x (ix1 r) := by
  rw [shapeCast_apply _ _ _ (ix2 (0 : Fin 1) r) (by
      rw [Shape.rowMajor_val_two, Shape.rowMajor_val_two]
      show 0 * 2048 + r.val = r.val * 1 + 0
      omega),
    shapeCast_apply _ _ _ (ix1 r) (by
      rw [Shape.rowMajor_val_one, Shape.rowMajor_val_two]
      show r.val = 0 * 2048 + r.val
      omega)]

/-- The second step's sum for the first block's rows: the greatest entry of the row is the greater of the stored one and the
    greatest entry of the row's column in the table against the second block. -/
theorem pay13_eq (v : FVec Ideal S2048x256 .f32) (w : FVec Ideal S2048x256 .bf16) (s : FVec Ideal S2048x1 .f32) :
    k0_pay13 (F := Ideal) v w s
      = ∑ r : Fin 2048, logDist (max (s (ix2 r (0 : Fin 1))) (⨆ q : Fin 2048, k0_pay12 (F := Ideal) v w (ix2 q r))) := by
  refine (logSum_eq (maximumf s (shapeCast S2048x1 (shapeCast S1x2048 (multiReduction .maximumf [0] S2048 (k0_pay12 v w) 0xFF800000#32
    reduces_S2048x2048_S2048 (.inl rfl) rfl) shapeCasts_S2048_S1x2048) shapeCasts_S1x2048_S2048x1))).trans ?_
  refine Finset.sum_congr rfl fun r _ => ?_
  rw [maximumf_apply, rowColumn_apply]
  exact congrArg (fun t => logDist (max _ t)) (colMax_eq _ (.inl rfl) rfl r)

/-- The number the second step writes, from the first block's sum `a`, the second block's cross maxima `s` and the second block's
    masked table `T`. -/
theorem pay2_eq (a : Ideal .f32) (s : FVec Ideal S2048x1 .f32) (T : FVec Ideal S2048x2048 .f32) :
    k0_pay2 (F := Ideal) a s (k0_pay17 T) (k0_pay18 T) (k0_pay19 T) (k0_pay20 T) (k0_pay21 T)
      = (0 - (a + ∑ r : Fin 2048, logDist (max (s (ix2 r (0 : Fin 1))) (⨆ c : Fin 2048, T (ix2 r c))))) * ((1 / 4096 : ℝ) : EReal) := by
  have e : logSum (maximumf s (shapeCast S2048x1 (multiReduction .maximumf [1] S2048 (lanes T) 0xFF800000#32
      reduces_S2048x128_S2048 (.inl rfl) rfl) shapeCasts_S2048_S2048x1))
      = ∑ r : Fin 2048, logDist (max (s (ix2 r (0 : Fin 1))) (⨆ c : Fin 2048, T (ix2 r c))) := by
    rw [logSum_eq]
    refine Finset.sum_congr rfl fun r _ => ?_
    rw [maximumf_apply, column_apply]
    exact congrArg (fun t => logDist (max _ t)) (rowMax_eq T (.inl rfl) rfl r)
  rw [← e, ← ofBits_inv_4096, ← Ideal.ofBits_zero_f32]
  rfl

end Cert.Koleo

end
-- ==== Proof.KernelPieces.lean ====
/-
  What each of the kernel's two grid points leaves in its buffers, as the body's own operations: the stores its run found,
  read back.
-/
module

public import proofs.«01_k».proof.Proof.KernelBody
public import proofs.«01_k».proof.Proof.Gen.KernelIdeal.Frame
public import proofs.«01_k».proof.Proof.Gen.KernelIdeal.Value

@[expose] public section

noncomputable section

open Idealize.ShloMosaic Idealize.ShloMosaic.TcCoe Idealize.ShloMosaic.ValueIdx Idealize.SL.Sem
open Idealize.ShloMosaic.Pipeline (Dat)
open scoped BigOperators

namespace Cert.Koleo

open Cert.KernelIdeal Cert.KernelIdeal.Gen

/-- The origin of a block. -/
theorem origin : (![0, 0] : Fin 2 → Nat) = fun _ => 0 := funext fun a => by fin_cases a <;> rfl

/-- The first step leaves the normalised block in the first scratch. -/
theorem rows_kept (c : Dev nD) (i : grid0.Coords) (a1 : Memref sig .tc .vmem S2048x256 .f32) (h1 : a1.IsWhole)
    (a2 : Memref sig .tc .smem S1x1 .f32) (h2 : a2.IsWhole) (a3 : Memref sig .tc .vmem S2048x256 .bf16) (h3 : a3.IsWhole)
    (a4 : Memref sig .tc .vmem S2048x1 .f32) (h4 : a4.IsWhole) (hc0 : cond0_0 i) (hc1 : ¬cond0_1 i) (x : Vec Ideal S2048x256 .f32) :
    sout0_A_0 c i a1 h1 a2 h2 a3 h3 a4 h4 hc0 hc1 x = k0_pay3 x := by
  unfold sout0_A_0
  rw [View.read_writes_eq_canon _ _ _ (scover0_A_0 c i a1 h1 a2 h2 a3 h3 a4 h4 hc0 hc1 x)]
  unfold kernelRun0_A
  dsimp only
  sl_unfold_words
  rw [View.canon_unit_zero origin]
  unfold k0_pay4
  simp only [View.readAt_eq_ld, h1.read_unread, View.ld_unit_zero (S := S2048x256) origin, shapeCast_self]

/-- The first step leaves its greatest entries in the second scratch. -/
theorem maxima_kept (c : Dev nD) (i : grid0.Coords) (a1 : Memref sig .tc .vmem S2048x256 .f32) (h1 : a1.IsWhole)
    (a2 : Memref sig .tc .smem S1x1 .f32) (h2 : a2.IsWhole) (a3 : Memref sig .tc .vmem S2048x256 .bf16) (h3 : a3.IsWhole)
    (a4 : Memref sig .tc .vmem S2048x1 .f32) (h4 : a4.IsWhole) (hc0 : cond0_0 i) (hc1 : ¬cond0_1 i) (x : Vec Ideal S2048x256 .f32) :
    sout0_A_1 c i a1 h1 a2 h2 a3 h3 a4 h4 hc0 hc1 x
      = k0_pay1 (k0_pay6 x) (k0_pay7 x) (k0_pay8 x) (k0_pay9 x) (k0_pay10 x) := by
  unfold sout0_A_1
  rw [View.read_writes_eq_canon _ _ _ (scover0_A_1 c i a1 h1 a2 h2 a3 h3 a4 h4 hc0 hc1 x)]
  unfold kernelRun0_A
  dsimp only
  sl_unfold_words
  rw [View.canon_unit_zero origin]
  simp only [View.readAt_eq_ld, h1.read_unread, View.ld_unit_zero (S := S2048x256) origin]

/-- The second step writes its number to the one cell of the result. -/
theorem number_written (c : Dev nD) (i : grid0.Coords) (a1 : Memref sig .tc .vmem S2048x256 .f32) (h1 : a1.IsWhole)
    (a2 : Memref sig .tc .smem S1x1 .f32) (h2 : a2.IsWhole) (a3 : Memref sig .tc .vmem S2048x256 .bf16) (h3 : a3.IsWhole)
    (a4 : Memref sig .tc .vmem S2048x1 .f32) (h4 : a4.IsWhole) (hc0 : ¬cond0_0 i) (hc1 : cond0_1 i) (x : Vec Ideal S2048x256 .f32)
    (w : Vec Ideal S2048x256 .bf16) (s : Vec Ideal S2048x1 .f32) :
    out0_B_1 c i a1 h1 a2 h2 a3 h3 a4 h4 hc0 hc1 x w s
      = fun _ => k0_pay2 (k0_pay13 x w s) (k0_pay16 (k0_pay12 x w) (k0_pay15 x w)) (k0_pay17 (k0_pay14 x)) (k0_pay18 (k0_pay14 x))
          (k0_pay19 (k0_pay14 x)) (k0_pay20 (k0_pay14 x)) (k0_pay21 (k0_pay14 x)) := by
  unfold out0_B_1
  rw [View.read_writes_eq_canon _ _ _ (cover0_B_1 c i a1 h1 a2 h2 a3 h3 a4 h4 hc0 hc1 x w s)]
  unfold kernelRun0_B
  dsimp only
  sl_unfold_words
  rw [View.canon_unit_zero origin]
  simp only [View.readAt_eq_ld, h1.read_unread, h3.read_unread, h4.read_unread, View.ld_unit_zero (S := S2048x256) origin,
    View.ld_unit_zero (S := S2048x1) origin]
  rfl

end Cert.Koleo

end
-- ==== Proof.KernelArray.lean ====
/-
  What the kernel's result array holds after its two grid points: the number the second point writes, computed from the two
  blocks of 2048 rows of the argument.
-/
module

public import proofs.«01_k».proof.Proof.KernelPieces
public import proofs.«01_k».proof.Proof.Gen.KernelIdeal.Frame
public import proofs.«01_k».proof.Proof.Gen.KernelIdeal.Value

@[expose] public section

noncomputable section

open Idealize.ShloMosaic Idealize.ShloMosaic.TcCoe Idealize.ShloMosaic.ValueIdx Idealize.SL.Sem
open Idealize.ShloMosaic.Pipeline (Dat)
open scoped BigOperators

namespace Cert.Koleo

open Cert.KernelIdeal Cert.KernelIdeal.Gen

variable (m : (ℓ : Loc nD τ sig) → Buf (Elt Ideal) ℓ)

/-- The number the second point writes from the two blocks `x0` and `x1`. -/
def written (x0 x1 : Vec Ideal S2048x256 .f32) : Ideal .f32 :=
  k0_pay2 (k0_pay13 x1 (k0_pay3 x0) (k0_pay1 (k0_pay6 x0) (k0_pay7 x0) (k0_pay8 x0) (k0_pay9 x0) (k0_pay10 x0)))
    (k0_pay16 (k0_pay12 x1 (k0_pay3 x0)) (k0_pay15 x1 (k0_pay3 x0))) (k0_pay17 (k0_pay14 x1)) (k0_pay18 (k0_pay14 x1))
    (k0_pay19 (k0_pay14 x1)) (k0_pay20 (k0_pay14 x1)) (k0_pay21 (k0_pay14 x1))

/-- After the first point the two scratches hold the normalised first block and its greatest entries. -/
theorem after_first (c : Dev nD) (t : Fin cfg0.N) (h0 : t.val % 2 = 0) (h1 : ¬t.val % 2 = 1) :
    (outsAt0 m c t.val t.isLt).2 = (k0_pay3 (iblk m c 0 t), k0_pay1 (k0_pay6 (iblk m c 0 t)) (k0_pay7 (iblk m c 0 t))
      (k0_pay8 (iblk m c 0 t)) (k0_pay9 (iblk m c 0 t)) (k0_pay10 (iblk m c 0 t))) := by
  rw [outsAt0_A m c t h0 h1]
  dsimp only
  rw [rows_kept, maxima_kept]

/-- The contents after a point depend on the point's number only. -/
theorem outsAt_congr (c : Dev nD) (n k : ℕ) (hn : n < cfg0.N) (hk : k < cfg0.N) (h : n = k) : outsAt0 m c n hn = outsAt0 m c k hk := by
  subst h
  rfl

/-- After the second point the result's staging cell holds the number written. -/
theorem after_second (c : Dev nD) :
    (outsAt0 m c t0_1.val t0_1.isLt).1 = fun _ => written (iblk m c 0 t0_0) (iblk m c 0 t0_1) := by
  have e := outsAt_congr m c (t0_1.val - 1) t0_0.val (Nat.lt_of_le_of_lt (Nat.sub_le _ _) t0_1.isLt) t0_0.isLt (by decide)
  have e' := after_first m c t0_0 (by decide) (by decide)
  rw [outsAt0_B m c t0_1 (by decide) (by decide)]
  dsimp only
  rw [e, e', number_written]
  unfold written
  with_reducible rfl

/-- The result array's contents after the run: the number written, in its one cell. -/
abbrev result (c : Dev nD) : Buf (Elt Ideal) ((c : Thread nD τ).loc main_v0) :=
  fun _ => written (iblk m c 0 t0_0) (iblk m c 0 t0_1)

/-- The one write-back, at the second point, writes it. -/
theorem flushed_result (c : Dev nD) (t : Fin cfg0.N) (hf : (cfg0.win 1).flush t = true) :
    (dats m 0 c).flushed 1 t = ((cfg0.win 1).blk t).view.read (Elt Ideal) (result m c) := by
  have ht : t = t0_1 := by
    have h := (flush0_1 t).mp hf
    rcases fin_N0 t with e | e
    · subst e; exact absurd h (by decide)
    · exact e
  subst ht
  rw [Cert.KernelIdeal.Value.flushed1, after_second]
  have hz : (fun a => win0_1.index t0_1 a * main_v0.ty.shape.size a) = fun _ => 0 := funext fun a => by fin_cases a <;> decide
  exact (Memref.read_access_unit_zero (Elt Ideal) main_v0 hz (fun a => by rw [congrFun hz a]; simp) (result m c)).symm

/-- The result array ends holding the number written at the second point. -/
theorem final_result (c : Dev nD) : (dats m 0 c).arrAt 1 cfg0.N = result m c :=
  (dats m 0 c).arrAt_eq_of_cover 1 (result m c) (flushed_result m c) fun i =>
    ⟨t0_1, (flush0_1 t0_1).mpr rfl, by
      show i ∈ ((View.whole main_v0).slice (win0_1.rect t0_1)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_1 0 * win0_1.size 0 ≤ (i 0 : Nat)
          ∧ (i 0 : Nat) < win0_1.index t0_1 0 * win0_1.size 0 + win0_1.xsize (grid0.coords t0_1) 0
        rw [show win0_1.index t0_1 0 * win0_1.size 0 = 0 from by decide +kernel,
          show win0_1.xsize (grid0.coords t0_1) 0 = 1 from by decide +kernel]
        omega
      | ⟨1, _⟩ =>
        show win0_1.index t0_1 1 * win0_1.size 1 ≤ (i 1 : Nat)
          ∧ (i 1 : Nat) < win0_1.index t0_1 1 * win0_1.size 1 + win0_1.xsize (grid0.coords t0_1) 1
        rw [show win0_1.index t0_1 1 * win0_1.size 1 = 0 from by decide +kernel,
          show win0_1.xsize (grid0.coords t0_1) 1 = 1 from by decide +kernel]
        omega⟩

/-- Row `r` of the block a grid point reads is row `2048 * t + r` of the argument. -/
theorem block_apply (c : Dev nD) (t : Fin cfg0.N) (r : Fin 2048) (k : Fin 256) (R : Fin 4096) (hR : R.val = t.val * 2048 + r.val) :
    iblk m c 0 t (ix2 r k) = m ((c : Thread nD τ).loc main_arg0) (ix2 R k) := by
  have hi : win0_0.index t 0 = t.val ∧ win0_0.index t 1 = 0 := by
    rcases fin_N0 t with e | e <;> subst e <;> decide
  unfold iblk
  rw [View.read_apply]
  show V m c main_arg0 _ = m (c.tc.loc main_arg0) _
  unfold V
  congr 1
  funext a
  apply Fin.ext
  match a with
  | ⟨0, _⟩ =>
    show win0_0.index t 0 * 2048 + 1 * r.val = R.val
    rw [hi.1, hR]; omega
  | ⟨1, _⟩ =>
    show win0_0.index t 1 * 256 + 1 * k.val = k.val
    rw [hi.2]; omega

end Cert.Koleo

end
-- ==== Proof.KernelValue.lean ====
/-
  The kernel's number in closed form: minus the mean over all 4096 rows of the logarithm of the distance for which the greatest
  entry of the row's dot products stands. The kernel computes the table in blocks of 2048 by 2048 and reads the block
  above the diagonal off the block below it by symmetry.
-/
module

public import proofs.«01_k».proof.Proof.KernelArray

@[expose] public section

noncomputable section

open Idealize.ShloMosaic Idealize.ShloMosaic.TcCoe Idealize.ShloMosaic.ValueIdx Idealize.SL.Sem
open scoped BigOperators

namespace Cert.Koleo

open Cert.KernelIdeal Cert.KernelIdeal.Gen

/-- Row `r` of the first half. -/
def lo (r : Fin 2048) : Fin 4096 := ⟨r.val, by omega⟩

/-- Row `r` of the second half. -/
def hi (r : Fin 2048) : Fin 4096 := ⟨2048 + r.val, by omega⟩

/-- A property of all rows, one half at a time. -/
theorem forall_halves (P : Fin 4096 → Prop) : (∀ j, P j) ↔ (∀ r, P (lo r)) ∧ ∀ r, P (hi r) := by
  refine ⟨fun h => ⟨fun r => h _, fun r => h _⟩, fun h j => ?_⟩
  by_cases hj : j.val < 2048
  · exact h.1 ⟨j.val, hj⟩
  · have e : hi ⟨j.val - 2048, by omega⟩ = j := Fin.ext (by show 2048 + (j.val - 2048) = j.val; omega)
    exact e ▸ h.2 ⟨j.val - 2048, by omega⟩

/-- A greatest entry over all rows, one half at a time. -/
theorem iSup_halves (f : Fin 4096 → EReal) : (⨆ j, f j) = max (⨆ r, f (lo r)) (⨆ r, f (hi r)) :=
  eq_of_forall_ge_iff fun z => by rw [iSup_le_iff, max_le_iff, iSup_le_iff, iSup_le_iff, forall_halves]

/-- A sum over all rows, one half at a time. -/
theorem sum_halves (f : Fin 4096 → EReal) : ∑ j, f j = (∑ r, f (lo r)) + ∑ r, f (hi r) :=
  Fin.sum_univ_add (a := 2048) (b := 2048) f

/-- Different rows of one half are different rows. -/
theorem lo_inj {r c : Fin 2048} : lo r = lo c ↔ r = c :=
  ⟨fun h => Fin.ext (show r.val = c.val from Fin.mk.inj h), fun h => congrArg lo h⟩

/-- Different rows of the other half are different rows. -/
theorem hi_inj {r c : Fin 2048} : hi r = hi c ↔ r = c :=
  ⟨fun h => Fin.ext (by have : 2048 + r.val = 2048 + c.val := congrArg Fin.val h; omega), fun h => congrArg hi h⟩

/-- The halves have no row in common. -/
theorem lo_ne_hi (r c : Fin 2048) : lo r ≠ hi c := fun h => by
  have : r.val = 2048 + c.val := congrArg Fin.val h
  omega

/-- The number written is the loss, when the two blocks hold the two halves of the rows `x`. -/
theorem written_eq (x : Fin 4096 → Fin 256 → EReal) (x0 x1 : Vec Ideal S2048x256 .f32) (h0 : ∀ r, blockRow (φ := .f32) x0 r = x (lo r))
    (h1 : ∀ r, blockRow (φ := .f32) x1 r = x (hi r)) : written x0 x1 = kernelLoss x := by
  unfold written kernelLoss
  rw [pay2_eq, pay13_eq, sum_halves]
  have e0 : ∀ r c : Fin 2048, k0_pay5 (F := Ideal) x0 (ix2 r c) = sims x (lo r) (lo c) := fun r c => by
    rw [pay5_apply, h0, h0]
    unfold sims
    simp only [lo_inj]
  have e1 : ∀ r c : Fin 2048, k0_pay5 (F := Ideal) x1 (ix2 r c) = sims x (hi r) (hi c) := fun r c => by
    rw [pay5_apply, h1, h1]
    unfold sims
    simp only [hi_inj]
  have e2 : ∀ q r : Fin 2048, k0_pay12 (F := Ideal) x1 (k0_pay3 x0) (ix2 q r) = sims x (hi q) (lo r) := fun q r => by
    rw [pay12_apply, blockRow_pay3, h0, h1]
    unfold sims
    rw [if_neg (Ne.symm (lo_ne_hi r q))]
  have e3 : ∀ q r : Fin 2048, k0_pay12 (F := Ideal) x1 (k0_pay3 x0) (ix2 q r) = sims x (lo r) (hi q) := fun q r => by
    rw [pay12_apply, blockRow_pay3, h0, h1, dot_comm]
    unfold sims
    rw [if_neg (lo_ne_hi r q)]
  have s0 : ∀ r : Fin 2048, max (k0_pay1 (F := Ideal) (k0_pay6 x0) (k0_pay7 x0) (k0_pay8 x0) (k0_pay9 x0) (k0_pay10 x0) (ix2 r (0 : Fin 1)))
      (⨆ q : Fin 2048, k0_pay12 (F := Ideal) x1 (k0_pay3 x0) (ix2 q r)) = ⨆ j, sims x (lo r) j := fun r => by
    rw [firstMax_apply, iSup_halves (fun j => sims x (lo r) j)]
    simp only [e0, e3]
  have s1 : ∀ r : Fin 2048, max (k0_pay16 (F := Ideal) (k0_pay12 x1 (k0_pay3 x0)) (k0_pay15 x1 (k0_pay3 x0)) (ix2 r (0 : Fin 1)))
      (⨆ c : Fin 2048, k0_pay14 (F := Ideal) x1 (ix2 r c)) = ⨆ j, sims x (hi r) j := fun r => by
    rw [crossMax_apply, iSup_halves (fun j => sims x (hi r) j), pay14_eq]
    simp only [e1, e2]
  simp only [s0, s1]

variable (m : (ℓ : Loc nD τ sig) → Buf (Elt Ideal) ℓ)

/-- The rows of the argument. -/
def argRows (c : Dev nD) : Fin 4096 → Fin 256 → EReal := fun i k => m ((c : Thread nD τ).loc main_arg0) (ix2 i k)

/-- The result array's one cell holds the loss of the argument's rows. -/
theorem result_eq (c : Dev nD) : result m c = fun _ => kernelLoss (argRows m c) := by
  unfold result
  rw [written_eq (argRows m c) (iblk m c 0 t0_0) (iblk m c 0 t0_1) (fun r => funext fun k => block_apply m c t0_0 r k (lo r) (by show r.val = 0 * 2048 + r.val; omega))
    (fun r => funext fun k => block_apply m c t0_1 r k (hi r) (by show 2048 + r.val = 1 * 2048 + r.val; omega))]

end Cert.Koleo

end
-- ==== Proof.Rows.lean ====
/-
  The mathematics of the nearest-neighbour loss, with no program in it.

  Rows of length one are handled as functions into the reals. Three facts carry the whole argument: the squared distance of two
  such rows is `2 - 2 * dot`; a dot product of two such rows lies between `-1` and `1`; and the position a top-1 picks in
  a row of dot products whose own entry was overwritten by `-1` is never the row's own position, provided that some
  other entry is above `-1` or comes earlier.
-/
module

public import Mathlib.Data.Real.Basic
public import Mathlib.Algebra.BigOperators.Fin
public import Mathlib.Algebra.Order.BigOperators.Ring.Finset
public import Mathlib.Tactic.Ring
public import Mathlib.Tactic.Linarith

@[expose] public section

namespace Cert.Koleo

open scoped BigOperators

variable {d n : ℕ}

/-- The squared distance of two vectors of length one is two minus twice their dot product. -/
theorem sum_sub_sq (u v : Fin d → ℝ) (hu : ∑ k, u k * u k = 1) (hv : ∑ k, v k * v k = 1) :
    ∑ k, (u k - v k) * (u k - v k) = 2 - 2 * ∑ k, u k * v k := by
  have e : ∀ k, (u k - v k) * (u k - v k) = u k * u k + v k * v k - 2 * (u k * v k) := fun k => by ring
  simp only [e, Finset.sum_sub_distrib, Finset.sum_add_distrib, ← Finset.mul_sum, hu, hv]
  ring

/-- The dot product of two vectors of length one is at most one, in the form the distance uses: `2 - 2 * dot` is not negative. -/
theorem two_sub_dot_nonneg (u v : Fin d → ℝ) (hu : ∑ k, u k * u k = 1) (hv : ∑ k, v k * v k = 1) :
    0 ≤ 2 - 2 * ∑ k, u k * v k := by
  rw [← sum_sub_sq u v hu hv]
  exact Finset.sum_nonneg fun k _ => mul_self_nonneg _

/-- The dot product of two vectors of length one is at least minus one. -/
theorem neg_one_le_dot (u v : Fin d → ℝ) (hu : ∑ k, u k * u k = 1) (hv : ∑ k, v k * v k = 1) :
    -1 ≤ ∑ k, u k * v k := by
  have h : (0 : ℝ) ≤ ∑ k, (u k + v k) * (u k + v k) := Finset.sum_nonneg fun k _ => mul_self_nonneg _
  have e : ∀ k, (u k + v k) * (u k + v k) = u k * u k + v k * v k + 2 * (u k * v k) := fun k => by ring
  simp only [e, Finset.sum_add_distrib, ← Finset.mul_sum, hu, hv] at h
  linarith

/-- The table of dot products of the rows `u`, the diagonal overwritten by minus one. -/
def table (u : Fin n → Fin d → ℝ) (i j : Fin n) : ℝ := if i = j then -1 else ∑ k, u i k * u j k

/-- Off the diagonal the table holds the dot product. -/
theorem table_of_ne (u : Fin n → Fin d → ℝ) {i j : Fin n} (h : i ≠ j) : table u i j = ∑ k, u i k * u j k := if_neg h

/-- On the diagonal the table holds minus one. -/
theorem table_self (u : Fin n → Fin d → ℝ) (i : Fin n) : table u i i = -1 := if_pos rfl

/-- A top-1 position of row `i` of the table — its entry is the greatest and every earlier entry is strictly less — is not `i`:
    a row after the first has its first entry before its own position; the first row has an entry above minus one. -/
theorem top_ne (u : Fin n → Fin d → ℝ) (hu : ∀ i, ∑ k, u i k * u i k = 1) (i s z : Fin n) (hz : z.val = 0)
    (hmax : ∀ j, table u i j ≤ table u i s) (hfirst : ∀ j, j < s → table u i j < table u i s)
    (h0 : i = z → ∃ j, j ≠ z ∧ -1 < ∑ k, u z k * u j k) : s ≠ i := by
  rintro rfl
  rw [table_self] at hmax hfirst
  by_cases hs : s = z
  · subst hs
    obtain ⟨j, hj, hlt⟩ := h0 rfl
    have := hmax j
    rw [table_of_ne u (Ne.symm hj)] at this
    linarith
  · have hlt : z < s := by
      rw [Fin.lt_def, hz]
      exact Nat.pos_of_ne_zero fun h => hs (Fin.ext (h.trans hz.symm))
    have := hfirst z hlt
    rw [table_of_ne u hs] at this
    linarith [neg_one_le_dot (u s) (u z) (hu s) (hu z)]

/-- So the squared distance of row `i` to the row its top-1 position names is two minus twice the greatest entry of its row of
    the table, and that number is not negative. -/
theorem top_dist (u : Fin n → Fin d → ℝ) (hu : ∀ i, ∑ k, u i k * u i k = 1) (i s : Fin n) (hs : s ≠ i) :
    ∑ k, (u i k - u s k) * (u i k - u s k) = 2 - 2 * table u i s ∧ 0 ≤ 2 - 2 * table u i s := by
  rw [table_of_ne u (Ne.symm hs)]
  exact ⟨sum_sub_sq _ _ (hu i) (hu s), two_sub_dot_nonneg _ _ (hu i) (hu s)⟩

end Cert.Koleo

end
-- ==== Proof.Regular.lean ====
/-
  What the precondition gives: rows of real numbers whose norms lie between the small constant and infinity, which the division
  by the norm turns into rows of length one.
-/
module

public import proofs.«01_k».proof.Proof.Rows
public import proofs.«01_k».proof.Proof.Loss

@[expose] public section

noncomputable section

open Idealize.ShloMosaic
open scoped BigOperators

namespace Cert.Koleo

/-- The norm of a row. -/
def norm (v : Fin 256 → EReal) : EReal := Ideal.sqrt (∑ k, v k * v k)

/-- The precondition on the rows: every norm is at or above the small constant and finite, and some row is not opposite to the
    first one. -/
structure Regular (x : Fin 4096 → Fin 256 → EReal) : Prop where
  below : ∀ i, eps ≤ norm (x i)
  above : ∀ i, norm (x i) < ⊤
  turned : ∃ j : Fin 4096, j.val ≠ 0 ∧ -(norm (x 0) * norm (x j)) < dot (x 0) (x j)

/-- The square of an extended real is not negative. -/
theorem sq_nonneg_ereal (a : EReal) : 0 ≤ a * a := by
  induction a with
  | bot => simp
  | top => simp
  | coe r => exact_mod_cast mul_self_nonneg r

/-- A sum of real numbers, each an extended real. -/
theorem coe_sum_real {n : Nat} (f : Fin n → ℝ) : ∑ k, ((f k : ℝ) : EReal) = ((∑ k, f k : ℝ) : EReal) :=
  (map_sum (⟨⟨fun r : ℝ => (r : EReal), EReal.coe_zero⟩, EReal.coe_add⟩ : ℝ →+ EReal) f Finset.univ).symm

/-- A dot product of rows of real numbers. -/
theorem dot_coe (f g : Fin 256 → ℝ) : dot (fun k => (f k : EReal)) (fun k => (g k : EReal)) = ((∑ k, f k * g k : ℝ) : EReal) := by
  unfold dot
  rw [← coe_sum_real]
  exact Finset.sum_congr rfl fun k _ => (EReal.coe_mul _ _).symm

/-- A row whose norm is finite holds real numbers. -/
theorem real_row (v : Fin 256 → EReal) (h : norm v < ⊤) : ∃ r : Fin 256 → ℝ, v = fun k => ((r k : ℝ) : EReal) := by
  have key : ∀ k, v k ≠ ⊥ ∧ v k ≠ ⊤ := fun k => by
    by_contra hk
    have hsq : v k * v k = ⊤ := by
      rcases not_and_or.1 hk with q | q
      · rw [not_not.1 q]; rfl
      · rw [not_not.1 q]; rfl
    have hs : (∑ k, v k * v k) = ⊤ := top_le_iff.1 (hsq ▸
      Finset.single_le_sum (f := fun k => v k * v k) (fun i _ => sq_nonneg_ereal (v i)) (Finset.mem_univ k))
    unfold norm at h
    rw [hs] at h
    exact absurd h (lt_irrefl _)
  exact ⟨fun k => (v k).toReal, funext fun k => (EReal.coe_toReal (key k).2 (key k).1).symm⟩

/-- The norm of a row of real numbers. -/
theorem norm_coe (r : Fin 256 → ℝ) : norm (fun k => (r k : EReal)) = ((Real.sqrt (∑ k, r k * r k) : ℝ) : EReal) := by
  have h := dot_coe r r
  unfold dot at h
  unfold norm
  rw [h, Ideal.sqrt_coe, if_neg (not_lt.2 (Finset.sum_nonneg fun k _ => mul_self_nonneg (r k)))]

/-- The length of a row of real numbers. -/
def len (r : Fin 256 → ℝ) : ℝ := Real.sqrt (∑ k, r k * r k)

/-- A row of real numbers whose norm is at least the small constant, divided by its bounded norm. -/
theorem unit_coe (r : Fin 256 → ℝ) (h : eps ≤ norm (fun k => (r k : EReal))) (k : Fin 256) :
    0 < len r ∧ unit (fun k => (r k : EReal)) k = ((r k / len r : ℝ) : EReal) := by
  have hb : bound (fun k => (r k : EReal)) = ((len r : ℝ) : EReal) := (max_eq_left h).trans (norm_coe r)
  have hp : 0 < len r := by
    rw [norm_coe, eps_eq, EReal.coe_le_coe_iff] at h
    exact lt_of_lt_of_le epsR_pos h
  refine ⟨hp, ?_⟩
  unfold unit
  rw [hb, Ideal.div_coe hp.ne', ← EReal.coe_mul, mul_one_div]

/-- Divided by its length, a row has length one. -/
theorem len_one (r : Fin 256 → ℝ) (h : 0 < len r) : ∑ k, r k / len r * (r k / len r) = 1 := by
  have e : (len r) * (len r) = ∑ k, r k * r k := Real.mul_self_sqrt (Finset.sum_nonneg fun k _ => mul_self_nonneg (r k))
  have e2 : ∀ k, r k / len r * (r k / len r) = (r k * r k) / (len r * len r) := fun k => div_mul_div_comm _ _ _ _
  rw [Finset.sum_congr rfl fun k _ => e2 k, ← Finset.sum_div, e]
  exact div_self (e ▸ (mul_pos h h).ne')

/-- Regular rows, normalised, are rows of real numbers of length one, and some other one is not opposite to the first. -/
theorem regular_units (x : Fin 4096 → Fin 256 → EReal) (h : Regular x) :
    ∃ u : Fin 4096 → Fin 256 → ℝ, (∀ i, unit (x i) = fun k => ((u i k : ℝ) : EReal)) ∧ (∀ i, ∑ k, u i k * u i k = 1)
      ∧ ∃ j : Fin 4096, j.val ≠ 0 ∧ -1 < ∑ k, u 0 k * u j k := by
  choose r hr using fun i => real_row (x i) (h.above i)
  have hu : ∀ i k, 0 < len (r i) ∧ unit (fun k => ((r i k : ℝ) : EReal)) k = ((r i k / len (r i) : ℝ) : EReal) := fun i k =>
    unit_coe (r i) (hr i ▸ h.below i) k
  refine ⟨fun i k => r i k / len (r i), fun i => ?_, fun i => len_one (r i) (hu i 0).1, ?_⟩
  · rw [hr i]
    exact funext fun k => (hu i k).2
  · obtain ⟨j, hj, hlt⟩ := h.turned
    refine ⟨j, hj, ?_⟩
    rw [hr 0, hr j, norm_coe, norm_coe, dot_coe, ← EReal.coe_mul, ← EReal.coe_neg, EReal.coe_lt_coe_iff] at hlt
    have e2 : ∀ k, r 0 k / len (r 0) * (r j k / len (r j)) = (r 0 k * r j k) / (len (r 0) * len (r j)) := fun k => div_mul_div_comm _ _ _ _
    rw [Finset.sum_congr rfl fun k _ => e2 k, ← Finset.sum_div, lt_div_iff₀ (mul_pos (hu 0 0).1 (hu j 0).1), neg_one_mul]
    exact hlt

end Cert.Koleo

end
-- ==== Proof.TopOne.lean ====
/-
  The first place of a stable descending sort is the place of a greatest element, and of the earliest one: what the operation that
  picks the one greatest entry of each row of a table answers.
-/
module

public import Idealize.ShloMosaic.Lib.IdealHost
public import Idealize.ShloMosaic.Lib.Pipeline.Value

@[expose] public section

noncomputable section

open Idealize.ShloMosaic Idealize.ShloMosaic.ValueIdx

namespace Cert.Koleo

/-- The head of a stable sort that puts greater values first, of a list of positions in increasing order: a position of the list
    with a greatest value, every earlier position of the list holding strictly less. -/
theorem head_of_sorted {n : Nat} (f : Fin n → EReal) (B : Fin n → Fin n → Bool) (hB : ∀ i j, B i j = true ↔ f j < f i) :
    ∀ l : List (Fin n), l.Pairwise (· < ·) → ∀ h t, stableSort B l = h :: t →
      h ∈ l ∧ (∀ j ∈ l, f j ≤ f h) ∧ ∀ j ∈ l, j < h → f j < f h := by
  intro l
  induction l with
  | nil => intro _ h t e; cases e
  | cons a l ih =>
    intro hp h t e
    obtain ⟨ha, hl⟩ := List.pairwise_cons.1 hp
    rw [stableSort] at e
    cases hs : stableSort B l with
    | nil =>
      have h0 : l = [] := List.eq_nil_of_length_eq_zero (by rw [← length_stableSort B l, hs]; rfl)
      subst h0
      rw [hs, insertBefore] at e
      obtain ⟨rfl, _⟩ := List.cons.inj e
      refine ⟨List.mem_singleton.2 rfl, fun j hj => ?_, fun j hj hlt => ?_⟩
      · rw [List.mem_singleton.1 hj]
      · rw [List.mem_singleton.1 hj] at hlt
        exact absurd hlt (lt_irrefl _)
    | cons b t' =>
      obtain ⟨hb, hmax, hfst⟩ := ih hl b t' hs
      rw [hs, insertBefore] at e
      by_cases hc : B b a = true
      · rw [if_pos hc] at e
        obtain ⟨rfl, _⟩ := List.cons.inj e
        have hlt := (hB _ _).1 hc
        refine ⟨List.mem_cons_of_mem _ hb, fun j hj => ?_, fun j hj hjb => ?_⟩
        · rcases List.mem_cons.1 hj with rfl | hj
          · exact hlt.le
          · exact hmax j hj
        · rcases List.mem_cons.1 hj with rfl | hj
          · exact hlt
          · exact hfst j hj hjb
      · rw [if_neg hc] at e
        obtain ⟨rfl, _⟩ := List.cons.inj e
        have hle : f b ≤ f a := not_lt.1 fun q => hc ((hB _ _).2 q)
        refine ⟨List.mem_cons_self, fun j hj => ?_, fun j hj hja => ?_⟩
        · rcases List.mem_cons.1 hj with rfl | hj
          · exact le_rfl
          · exact (hmax j hj).trans hle
        · rcases List.mem_cons.1 hj with rfl | hj
          · exact absurd hja (lt_irrefl _)
          · exact absurd (hja.trans (ha j hj)) (lt_irrefl _)

/-- The position that a stable sort with greater values first puts at place 0. -/
theorem sortedFrom_zero {n : Nat} (f : Fin n → EReal) (B : Fin n → Fin n → Bool) (hB : ∀ i j, B i j = true ↔ f j < f i)
    (k : Fin n) (hk : k.val = 0) :
    (∀ j, f j ≤ f (sortedFrom B k)) ∧ ∀ j, j < sortedFrom B k → f j < f (sortedFrom B k) := by
  have hlen := length_sortPositions n B
  unfold sortedFrom
  generalize hk' : Fin.cast hlen.symm k = k'
  have hv : k'.val = 0 := by rw [← hk']; exact hk
  clear hk'
  unfold sortPositions at hlen k' hv ⊢
  have hp : (List.finRange n).Pairwise (· < ·) := List.pairwise_lt_finRange n
  obtain ⟨h, t, hs⟩ := List.exists_cons_of_length_pos (l := stableSort B (List.finRange n)) (by rw [hlen]; exact k.pos)
  obtain ⟨_, hmax, hfst⟩ := head_of_sorted f B hB _ hp h t hs
  have hg : (stableSort B (List.finRange n)).get k' = h := by
    rw [List.get_eq_getElem]
    simp only [hv, hs, List.getElem_cons_zero]
  rw [hg]
  exact ⟨fun j => hmax j (List.mem_finRange j), fun j => hfst j (List.mem_finRange j)⟩

/-- The position that the pick of the one greatest entry of each row of a table answers for row `i`: the lowest of the columns
    that hold the row's greatest entry. -/
theorem topOne_apply {R C : Nat} (x : (⟨2, ![R, C]⟩ : Shape).Idx → EReal) (hC : 0 < C)
    (h : (⟨2, ![R, C]⟩ : Shape).Slices (fun _ => 0) (⟨2, ![R, 1]⟩ : Shape)) (i : Fin R) :
    ∃ s : Fin C, (Host.topK (⟨2, ![R, 1]⟩ : Shape) 1 (FloatOps.cmpfTotal (F := Ideal) (φ := .f32) .gt) x h).2 (ix2 i 0) = BitVec.ofNat 32 s.val
      ∧ (∀ j, x (ix2 i j) ≤ x (ix2 i s)) ∧ ∀ j, j < s → x (ix2 i j) < x (ix2 i s) := by
  have al : ∀ k : Fin C, (ix2 i (⟨0, hC⟩ : Fin C) : (⟨2, ![R, C]⟩ : Shape).Idx).along 1 k = ix2 i k := fun k => by
    funext a
    match a with
    | ⟨0, _⟩ => rfl
    | ⟨1, _⟩ => rfl
  let B : Fin C → Fin C → Bool := fun k k' =>
    FloatOps.cmpfTotal (F := Ideal) (φ := .f32) .gt (x ((ix2 i (⟨0, hC⟩ : Fin C) : (⟨2, ![R, C]⟩ : Shape).Idx).along 1 k))
      (x ((ix2 i (⟨0, hC⟩ : Fin C) : (⟨2, ![R, C]⟩ : Shape).Idx).along 1 k')) == 1#1
  have hB : ∀ k k', B k k' = true ↔ x (ix2 i k') < x (ix2 i k) := fun k k' => by
    dsimp only [B]
    rw [al, al]
    show (BitVec.ofBool (decide (x (ix2 i k') < x (ix2 i k))) == 1#1) = true ↔ _
    by_cases q : x (ix2 i k') < x (ix2 i k)
    · simp [q]
    · simp [q]
  obtain ⟨h1, h2⟩ := sortedFrom_zero (fun k => x (ix2 i k)) B hB ⟨0, hC⟩ rfl
  refine ⟨sortedFrom B ⟨0, hC⟩, ?_, h1, h2⟩
  unfold Host.topK
  dsimp only
  refine (extractStridedSlice_apply _ _ h (ix2 i 0) (ix2 i (⟨0, hC⟩ : Fin C)) fun a => ?_).trans ?_
  · match a with
    | ⟨0, _⟩ => simp
    | ⟨1, _⟩ => simp
  · unfold Host.sort2
    rw [dif_pos (by decide : 1 < 2)]
    rfl

end Cert.Koleo
-- ==== Proof.Lands.lean ====
/-
  Two operations read at an index, at any extents: the writing of single entries of a table at listed places, and the
  picking of whole rows of a table at listed row numbers.
-/
module

public import Idealize.ShloMosaic.Lib.Routing.OpsSet

@[expose] public section

noncomputable section

open Idealize.ShloMosaic Idealize.ShloMosaic.ValueIdx

namespace Cert.Koleo

/-- The conditions of a write of `N` single entries into an `R × C` table, the place of each given by a row of two words, decided. -/
abbrev placeDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

/-- Entry `a` of the list lands at `(r, c)` exactly when its two words, read signed, are `r` and `c`. -/
theorem lands_iff {R C N w : Nat} (wf : ScatterDims.WF ⟨2, ![R, C]⟩ ⟨2, ![N, 2]⟩ ⟨1, ![N]⟩ [] [0, 1] [0, 1] 1)
    (idx : IVec ⟨2, ![N, 2]⟩ w) (a : Fin N) (r : Fin R) (c : Fin C) :
    (placeDims R C N wf).resultIdx? (ix1 a) idx = some (ix2 r c)
      ↔ (idx (ix2 a 0)).toInt = r.val ∧ (idx (ix2 a 1)).toInt = c.val := by
  have hm : ∀ q : Fin 2, q ∈ (placeDims R C N wf).scatterDimsToOperandDims := fun q => by
    show q ∈ [(0 : Fin 2), 1]
    fin_cases q <;> simp
  have hwin : ∀ q : Fin 2, (placeDims R C N wf).window (ix1 a) q = 0 := fun q => by
    unfold ScatterDims.window
    rw [dif_neg fun h => (of_decide_eq_true (List.mem_filter.1 h).2) (by
      show q ∈ [(0 : Fin 2), 1]
      fin_cases q <;> simp)]
  have hsi : ∀ q : Fin 2, (placeDims R C N wf).siIdx (ix1 a)
      ⟨(placeDims R C N wf).scatterDimsToOperandDims.idxOf q, List.idxOf_lt_length_iff.2 (hm q)⟩ = ix2 a q := fun q => by
    funext b
    apply Fin.ext
    match b with
    | ⟨0, _⟩ => rfl
    | ⟨1, _⟩ =>
      unfold ScatterDims.siIdx
      rw [dif_pos rfl]
      show List.idxOf q [(0 : Fin 2), 1] = q.val
      fin_cases q <;> rfl
  have hstart : ∀ q : Fin 2, (placeDims R C N wf).start (ix1 a) idx q = (idx (ix2 a q)).toInt := fun q => by
    unfold ScatterDims.start
    rw [dif_pos (hm q), hsi]
  rw [Routing.resultIdx?_ix2, hstart, hstart, hwin, hwin]
  omega

/-- A square table whose diagonal is overwritten with `v`, the list of places being `(0, 0)`, `(1, 1)`, …. -/
theorem diagonal_apply {α : Type} {N : Nat} (hN : N < 2 ^ 31) (wf : ScatterDims.WF ⟨2, ![N, N]⟩ ⟨2, ![N, 2]⟩ ⟨1, ![N]⟩ [] [0, 1] [0, 1] 1)
    (x : (⟨2, ![N, N]⟩ : Shape).Idx → α) (idx : IVec ⟨2, ![N, 2]⟩ 32) (hidx : ∀ (a : Fin N) (q : Fin 2), idx (ix2 a q) = BitVec.ofNat 32 a.val)
    (upd : (⟨1, ![N]⟩ : Shape).Idx → α) (v : α) (hv : ∀ a, upd a = v) (i j : Fin N) :
    Host.scatter (placeDims N N N wf) (fun _ b => b) x idx upd (ix2 i j) = if i = j then v else x (ix2 i j) := by
  have hint : ∀ (a : Fin N) (q : Fin 2), (idx (ix2 a q)).toInt = (a.val : Int) := fun a q => by
    rw [hidx, StableHlo.Predicate.toInt_ofNat_small _ (by omega)]
  by_cases e : i = j
  · subst e
    rw [if_pos rfl]
    exact Routing.scatter_set_hit _ x idx upd _ v (fun k _ => hv k) (ix1 i) ((lands_iff wf idx i i i).2 ⟨hint i 0, hint i 1⟩)
  · rw [if_neg e]
    refine Routing.scatter_set_miss _ x idx upd _ fun k hk => e ?_
    obtain ⟨a, rfl⟩ : ∃ a : Fin N, k = ix1 a := ⟨k 0, eq_ix1 k⟩
    obtain ⟨h0, h1⟩ := (lands_iff wf idx a i j).1 hk
    rw [hint] at h0 h1
    exact Fin.ext (by omega)

/-- The picking of rows of an `N × D` table, one row number per place of an `R × C` list, decided. -/
abbrev pickDims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Where the list holds a row number `b`, the result holds that row. -/
theorem pick_apply {α : Type} {N D R C : Nat} (hN : N < 2 ^ 31)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (r : Fin R) (c : Fin C) (k : Fin D) (b : Fin N)
    (hb : idx (ix3 r c 0) = BitVec.ofNat 32 b.val) :
    Host.gather (pickDims N D R C wf) x idx (ix3 r c k) = x (ix2 b k) := by
  unfold Host.gather
  refine congrArg x (funext fun a => Fin.ext ?_)
  match a with
  | ⟨0, _⟩ =>
    show (pickDims N D R C wf).start (ix3 r c k) idx 0 + (pickDims N D R C wf).batchCoord (ix3 r c k) 0
      + (pickDims N D R C wf).offCoord (ix3 r c k) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickDims N D R C wf).startIndexMap from List.mem_singleton.mpr rfl)]
    have hsi : (pickDims N D R C wf).siIdx (ix3 r c k) ⟨List.idxOf (0 : Fin 2) (pickDims N D R C wf).startIndexMap,
        List.idxOf_lt_length_iff.2 (List.mem_singleton.mpr rfl)⟩ = ix3 r c 0 := by
      funext q
      refine Fin.ext ?_
      match q with
      | ⟨0, _⟩ => rfl
      | ⟨1, _⟩ => rfl
      | ⟨2, _⟩ => rfl
    have hbl := b.isLt
    rw [hsi, hb, StableHlo.Predicate.toInt_ofNat_small _ (by omega)]
    show min ((b.val : Int)).toNat (N - 1) = b.val
    omega
  | ⟨1, _⟩ =>
    show (pickDims N D R C wf).start (ix3 r c k) idx 1 + (pickDims N D R C wf).batchCoord (ix3 r c k) 1
      + (pickDims N D R C wf).offCoord (ix3 r c k) 1 = k.val
    rw [GatherDims.batchCoord_eq_zero _ _ _ List.not_mem_nil]
    unfold GatherDims.start GatherDims.offCoord
    rw [dif_neg (show (1 : Fin 2) ∉ (pickDims N D R C wf).startIndexMap from by simp [pickDims]),
      dif_pos ((GatherDims.mem_sKept _ _).2 ⟨by simp [pickDims], List.not_mem_nil⟩)]
    rw [Nat.add_zero, Nat.zero_add]
    rfl

end Cert.Koleo
-- ==== Proof.RefValue.lean ====
/-
  What the reference computes, stage by stage: the normalised rows, the table of their dot products with the diagonal
  overwritten, the nearest row of each row, the distances to it, and the mean of their logarithms.
-/
module

public import proofs.«01_k».proof.Proof.Gen.ReferenceIdeal.Run
public import proofs.«01_k».proof.Proof.Loss
public import proofs.«01_k».proof.Proof.TopOne
public import proofs.«01_k».proof.Proof.Lands
public import Idealize.ShloMosaic.Lib.StackMember

@[expose] public section

noncomputable section

open Idealize.ShloMosaic Idealize.ShloMosaic.TcCoe Idealize.ShloMosaic.ValueIdx Idealize.SL.Sem
open scoped BigOperators

namespace Cert.Koleo

open Cert.ReferenceIdeal Cert.ReferenceIdeal.Gen

/-- The rows divided by their norms. -/
def unitRows (a : FVec Ideal S4096x256 .f32) : FVec Ideal S4096x256 .f32 :=
  Host.divf a (broadcastInDim S4096x256 ![0, 1] bcast_S4096x1_S4096x256_0_1 (maximumf (Host.sqrt (broadcastInDim S4096x1 ![0] bcast_S4096_S4096x1_0
    (Host.reduceAdd (mulf a a) (constant S_ .f32 0x00000000#32) reducesTo_S4096x256_S4096_d1 h_S_)))
    (broadcastInDim S4096x1 ![] bcast_S_S4096x1 (constant S_ .f32 0x322BCC77#32))))

/-- A vector of row numbers with the negative ones counted from the end. -/
def wrapList (v : IVec S4096 32) : IVec S4096 32 :=
  select (cmpi .slt v (broadcastInDim S4096 ![] bcast_S_S4096 (constantI S_ 32 0#32)))
    (addi v (broadcastInDim S4096 ![] bcast_S_S4096 (constantI S_ 32 4096#32))) v

/-- A column of row numbers with the negative ones counted from the end. -/
def wrapColumn (v : IVec S4096x1 32) : IVec S4096x1 32 :=
  select (cmpi .slt v (broadcastInDim S4096x1 ![] bcast_S_S4096x1 (constantI S_ 32 0#32)))
    (addi v (broadcastInDim S4096x1 ![] bcast_S_S4096x1 (constantI S_ 32 4096#32))) v

/-- The places of the diagonal. -/
def places : IVec S4096x2 32 :=
  concatenate S4096x2 1 [⟨S4096x1, broadcastInDim S4096x1 ![0] bcast_S4096_S4096x1_0 (wrapList (iotaInDim S4096 32 0))⟩,
    ⟨S4096x1, broadcastInDim S4096x1 ![0] bcast_S4096_S4096x1_0 (wrapList (iotaInDim S4096 32 0))⟩] concatenates_S4096x1_S4096x1_S4096x2_d1

/-- The table of dot products, its diagonal overwritten. -/
def tableOf (u : FVec Ideal S4096x256 .f32) : FVec Ideal S4096x4096 .f32 :=
  Host.scatter scatter_S4096x4096_S4096x2_S4096_n_01_01_1 (fun _ b => b)
    (Host.dotGeneral dot_S4096x256_S256x4096_S4096x4096_1_0_0_1_n_n none u (transpose S256x4096 [1, 0] u transposes_S4096x256_S256x4096_1_0))
    places (broadcastInDim S4096 ![] bcast_S_S4096 (constant S_ .f32 0xBF800000#32))

/-- The place of the greatest entry of each row of a table. -/
def nearest (t : FVec Ideal S4096x4096 .f32) : IVec S4096x1 32 :=
  (Host.topK S4096x1 1 (FloatOps.cmpfTotal .gt) t sliceFits_S4096x4096_S4096x1).2

/-- Each row less the row that `p` names. -/
def differences (u : FVec Ideal S4096x256 .f32) (p : IVec S4096x1 32) : FVec Ideal S4096x1x256 .f32 :=
  subf (broadcastInDim S4096x1x256 ![0, 2] bcast_S4096x256_S4096x1x256_0_2 u)
    (Host.gather gather_S4096x256_S4096x1x1_S4096x1x256_2_0_n_n_0_2_1256 u
      (broadcastInDim S4096x1x1 ![0, 1] bcast_S4096x1_S4096x1x1_0_1 (wrapColumn p)))

/-- Minus the mean of the logarithms of the lengths of the differences. -/
def lossOf (d : FVec Ideal S4096x1x256 .f32) : FVec Ideal S1x1 .f32 :=
  shapeCast S1x1 (Host.negf (Host.divf (Host.reduceAdd (Host.log (addf (shapeCast S4096 (Host.sqrt
      (Host.reduceAdd (mulf d d) (constant S_ .f32 0x00000000#32) reducesTo_S4096x1x256_S4096x1_d2 h_S_)) shapeCasts_S4096x1_S4096)
    (broadcastInDim S4096 ![] bcast_S_S4096 (constant S_ .f32 0x322BCC77#32))))
    (constant S_ .f32 0x00000000#32) reducesTo_S4096_S_d0 h_S_) (constant S_ .f32 0x45800000#32))) shapeCasts_S_S1x1

/-- The reference's result is those stages in a row. -/
theorem reference_stages (m : (ℓ : Loc nD τ sig) → Buf (Elt Ideal) ℓ) (c : Dev nD) :
    Cert.ReferenceIdeal.Value.res_out0 m c
      = lossOf (differences (unitRows (m ((c : Thread nD τ).loc main_arg0))) (nearest (tableOf (unitRows (m ((c : Thread nD τ).loc main_arg0)))))) := by
  unfold Cert.ReferenceIdeal.Value.res_out0 Cert.ReferenceIdeal.Value.res_main_v42 lossOf differences nearest tableOf places wrapColumn wrapList unitRows
  rfl

/-- The normalised rows, an entry at a time. -/
theorem unitRows_apply (a : FVec Ideal S4096x256 .f32) (i : Fin 4096) (k : Fin 256) :
    unitRows a (ix2 i k) = unit (fun k => a (ix2 i k)) k := by
  unfold unitRows unit bound
  rw [hostDivf_apply]
  refine congrArg (Ideal.div _) ?_
  refine (broadcastInDim_apply _ _ _ (ix2 i k) (ix2 i 0) fun q => by
    match q with
    | ⟨0, _⟩ => rfl
    | ⟨1, _⟩ => rfl).trans ?_
  rw [maximumf_apply, broadcastInDim_scalar_apply]
  refine congrArg₂ max (congrArg Ideal.sqrt ?_) rfl
  refine (broadcastInDim_apply _ _ _ (ix2 i 0) (ix1 i) fun q => by
    match q with
    | ⟨0, _⟩ => rfl).trans ?_
  rw [hostReduceAdd_apply, constant_apply, Ideal.ofBits_zero_f32, Ideal.hostReduceAdd_single _ (by decide), zero_add]
  refine Finset.sum_congr rfl fun k' _ => ?_
  have e : Shape.Reduces.lift (s := S4096x256) (t := S4096) (a := 1) (by decide) (ix1 i) k' = ix2 i k' := by
    funext q
    match q with
    | ⟨0, _⟩ => rfl
    | ⟨1, _⟩ => rfl
  exact congrArg (fun z => a z * a z) e

/-- A row number that is in range is not changed. -/
theorem wrapList_apply (v : IVec S4096 32) (i : S4096.Idx) (h : (v i).toNat < 2 ^ 31) : wrapList v i = v i := by
  unfold wrapList
  rw [select_apply]
  show Scalar.select (IntOp.cmpi .slt (v i) (broadcastInDim S4096 ![] bcast_S_S4096 (constantI S_ 32 0#32) i)) _ _ = _
  rw [broadcastInDim_scalar_apply]
  exact Routing.wrap_of_lt _ _ h

/-- A row number that is in range is not changed. -/
theorem wrapColumn_apply (v : IVec S4096x1 32) (i : S4096x1.Idx) (h : (v i).toNat < 2 ^ 31) : wrapColumn v i = v i := by
  unfold wrapColumn
  rw [select_apply]
  show Scalar.select (IntOp.cmpi .slt (v i) (broadcastInDim S4096x1 ![] bcast_S_S4096x1 (constantI S_ 32 0#32) i)) _ _ = _
  rw [broadcastInDim_scalar_apply]
  exact Routing.wrap_of_lt _ _ h

/-- A row number as a word is small. -/
theorem small_word (i : Fin 4096) : (BitVec.ofNat 32 i.val).toNat < 2 ^ 31 := by
  rw [BitVec.toNat_ofNat]; omega

/-- Place `i` of the diagonal is `(i, i)`. -/
theorem places_apply (i : Fin 4096) (q : Fin 2) : places (ix2 i q) = BitVec.ofNat 32 i.val := by
  have key : broadcastInDim S4096x1 ![0] bcast_S4096_S4096x1_0 (wrapList (iotaInDim S4096 32 0)) (ix2 i 0) = BitVec.ofNat 32 i.val :=
    (broadcastInDim_apply _ _ _ (ix2 i 0) (ix1 i) fun q => by
      match q with
      | ⟨0, _⟩ => rfl).trans (wrapList_apply _ _ (small_word i))
  unfold places
  match q with
  | ⟨0, _⟩ =>
    refine (concatenate_pair_apply_left (t := S4096x2) 1 _ _ concatenates_S4096x1_S4096x1_S4096x2_d1 (ix2 i 0) rfl (ix2 i 0) fun b => by
      match b with
      | ⟨0, _⟩ => rfl
      | ⟨1, _⟩ => rfl).trans key
  | ⟨1, _⟩ =>
    refine (concatenate_pair_apply_right (t := S4096x2) 1 _ _ concatenates_S4096x1_S4096x1_S4096x2_d1 (ix2 i 1) rfl rfl (ix2 i 0) (fun b hb => by
      match b with
      | ⟨0, _⟩ => rfl
      | ⟨1, _⟩ => exact absurd rfl hb) rfl).trans key

/-- The table, an entry at a time. -/
theorem tableOf_apply (u : FVec Ideal S4096x256 .f32) (i j : Fin 4096) :
    tableOf u (ix2 i j) = if i = j then ((-1 : ℝ) : EReal) else ∑ k : Fin 256, u (ix2 i k) * u (ix2 j k) := by
  unfold tableOf
  refine (diagonal_apply (N := 4096) (by decide) scatter_S4096x4096_S4096x2_S4096_n_01_01_1_wf _ places places_apply _ ((-1 : ℝ) : EReal)
    (fun q => ?_) i j).trans ?_
  · rw [broadcastInDim_scalar_apply, constant_apply, ofBits_neg_one]
  · refine if_congr Iff.rfl rfl ?_
    refine (StackMember.dotGeneral_plain_apply (m := 4096) (k := 256) (n := 4096) none _ _ i j).trans (Finset.sum_congr rfl fun k _ => congrArg _ ?_)
    exact transpose_apply _ _ _ (ix2 k j) (ix2 j k) fun q => by
      match q with
      | ⟨0, _⟩ => rfl
      | ⟨1, _⟩ => rfl

/-- The place of the greatest entry of row `i`: the lowest of those that hold it. -/
theorem nearest_apply (t : FVec Ideal S4096x4096 .f32) (i : Fin 4096) :
    ∃ s : Fin 4096, nearest t (ix2 i 0) = BitVec.ofNat 32 s.val
      ∧ (∀ j, t (ix2 i j) ≤ t (ix2 i s)) ∧ ∀ j, j < s → t (ix2 i j) < t (ix2 i s) :=
  topOne_apply t (by decide) sliceFits_S4096x4096_S4096x1 i

/-- Row `i` less the row that `p` names. -/
theorem differences_apply (u : FVec Ideal S4096x256 .f32) (p : IVec S4096x1 32) (i s : Fin 4096) (hp : p (ix2 i 0) = BitVec.ofNat 32 s.val)
    (k : Fin 256) : differences u p (ix3 i 0 k) = u (ix2 i k) - u (ix2 s k) := by
  unfold differences
  rw [subf_apply]
  refine congrArg₂ (fun x y : EReal => x - y) ?_ ?_
  · exact broadcastInDim_apply _ _ _ (ix3 i 0 k) (ix2 i k) fun q => by
      match q with
      | ⟨0, _⟩ => rfl
      | ⟨1, _⟩ => rfl
  · refine pick_apply (N := 4096) (by decide) gather_S4096x256_S4096x1x1_S4096x1x256_2_0_n_n_0_2_1256_wf u _ i 0 k s ?_
    refine (broadcastInDim_apply _ _ _ (ix3 i 0 0) (ix2 i 0) fun q => by
      match q with
      | ⟨0, _⟩ => rfl
      | ⟨1, _⟩ => rfl).trans ?_
    rw [wrapColumn_apply _ _ (by rw [hp]; exact small_word s), hp]

/-- The places of a list of 4096 entries are the numbers below 4096. -/
def listIdx : S4096.Idx ≃ Fin 4096 where
  toFun q := q 0
  invFun i := ix1 i
  left_inv q := (eq_ix1 q).symm
  right_inv _ := rfl

/-- Minus the mean of the logarithms, in closed form. -/
theorem lossOf_apply (d : FVec Ideal S4096x1x256 .f32) (j : S1x1.Idx) :
    lossOf d j = -(Ideal.div (∑ i : Fin 4096, Ideal.log (Ideal.sqrt (∑ k : Fin 256, d (ix3 i 0 k) * d (ix3 i 0 k)) + eps)) ((4096 : ℝ) : EReal)) := by
  unfold lossOf
  refine (shapeCast_apply _ _ j ix0 (by
    have h0 : (S_.rowMajor ix0).val < 1 := lt_of_lt_of_eq (S_.rowMajor ix0).isLt (by decide)
    have h1 : (S1x1.rowMajor j).val < 1 := lt_of_lt_of_eq (S1x1.rowMajor j).isLt (by decide)
    exact (Nat.lt_one_iff.1 h0).trans (Nat.lt_one_iff.1 h1).symm)).trans ?_
  refine congrArg (fun z : EReal => -z) ?_
  rw [hostDivf_apply, constant_apply, ofBits_4096, hostReduceAdd_apply, constant_apply, Ideal.ofBits_zero_f32,
    Ideal.hostReduceAdd_total _ (fun b => b.elim0), zero_add]
  refine congrArg (fun z => Ideal.div z _) (Fintype.sum_equiv listIdx _ _ fun q => ?_)
  obtain ⟨i, rfl⟩ : ∃ i : Fin 4096, q = ix1 i := ⟨q 0, eq_ix1 q⟩
  refine congrArg Ideal.log ?_
  rw [addf_apply, broadcastInDim_scalar_apply, constant_apply]
  refine congrArg (fun z : EReal => z + eps) ?_
  refine (shapeCast_apply _ _ (ix1 i) (ix2 i 0) (by
    rw [Shape.rowMajor_val_one, Shape.rowMajor_val_two]; show i.val * 1 + 0 = i.val; omega)).trans ?_
  refine congrArg Ideal.sqrt ?_
  rw [hostReduceAdd_apply, constant_apply, Ideal.ofBits_zero_f32, Ideal.hostReduceAdd_single _ (by decide), zero_add]
  refine Finset.sum_congr rfl fun k _ => ?_
  have e' : Shape.Reduces.lift (s := S4096x1x256) (t := S4096x1) (a := 2) (by decide) (ix2 i 0) k = ix3 i 0 k := by
    funext q
    match q with
    | ⟨0, _⟩ => rfl
    | ⟨1, _⟩ => rfl
    | ⟨2, _⟩ => rfl
  exact congrArg (fun z => d z * d z) e'

end Cert.Koleo

end
-- ==== Proof.Equation.lean ====
/-
  The equation: on regular rows, minus the mean of the logarithms of the distances that the reference measures is the number the
  kernel computes from the greatest dot products.
-/
module

public import proofs.«01_k».proof.Proof.Regular
public import proofs.«01_k».proof.Proof.RefValue

@[expose] public section

noncomputable section

open Idealize.ShloMosaic Idealize.ShloMosaic.ValueIdx
open scoped BigOperators

namespace Cert.Koleo

open Cert.ReferenceIdeal

/-- The table of dot products of normalised rows that hold real numbers. -/
theorem sims_coe (x : Fin 4096 → Fin 256 → EReal) (u : Fin 4096 → Fin 256 → ℝ) (hx : ∀ i, unit (x i) = fun k => ((u i k : ℝ) : EReal))
    (i j : Fin 4096) : sims x i j = ((table u i j : ℝ) : EReal) := by
  unfold sims table
  by_cases e : i = j
  · rw [if_pos e, if_pos e]
  · rw [if_neg e, if_neg e, hx, hx, dot_coe]

/-- The logarithm of the distance for which a real dot product stands. -/
theorem logDist_coe (m : ℝ) (h : 0 ≤ 2 - 2 * m) : logDist ((m : ℝ) : EReal) = Ideal.log (Ideal.sqrt (((2 - 2 * m : ℝ) : EReal)) + eps) := by
  unfold logDist
  rw [← EReal.coe_mul, ← EReal.coe_sub, max_eq_left (by exact_mod_cast h)]

/-- The sum of the squared differences of two rows of real numbers. -/
theorem sum_sq_coe (f g : Fin 256 → ℝ) :
    ∑ k, (((f k : ℝ) : EReal) - ((g k : ℝ) : EReal)) * (((f k : ℝ) : EReal) - ((g k : ℝ) : EReal))
      = ((∑ k, (f k - g k) * (f k - g k) : ℝ) : EReal) := by
  rw [← coe_sum_real]
  exact Finset.sum_congr rfl fun k _ => by rw [← EReal.coe_sub, ← EReal.coe_mul]

/-- One row: the logarithm of the distance to the row that the greatest entry of the table names is the logarithm of the
    distance for which that entry stands. -/
theorem row_term (x : Fin 4096 → Fin 256 → EReal) (u : Fin 4096 → Fin 256 → ℝ) (hx : ∀ i, unit (x i) = fun k => ((u i k : ℝ) : EReal))
    (hu : ∀ i, ∑ k, u i k * u i k = 1) (ht : ∃ j : Fin 4096, j.val ≠ 0 ∧ -1 < ∑ k, u 0 k * u j k) (i s : Fin 4096)
    (hmax : ∀ j, sims x i j ≤ sims x i s) (hfirst : ∀ j, j < s → sims x i j < sims x i s) :
    Ideal.log (Ideal.sqrt (∑ k, (unit (x i) k - unit (x s) k) * (unit (x i) k - unit (x s) k)) + eps) = logDist (⨆ j, sims x i j) := by
  have hsup : (⨆ j, sims x i j) = sims x i s := le_antisymm (iSup_le hmax) (le_iSup (sims x i) s)
  have hm : ∀ j, table u i j ≤ table u i s := fun j => by
    have := hmax j
    rw [sims_coe x u hx, sims_coe x u hx, EReal.coe_le_coe_iff] at this
    exact this
  have hf : ∀ j, j < s → table u i j < table u i s := fun j hj => by
    have := hfirst j hj
    rw [sims_coe x u hx, sims_coe x u hx, EReal.coe_lt_coe_iff] at this
    exact this
  have hne : s ≠ i := top_ne u hu i s 0 rfl hm hf fun _ => by
    obtain ⟨j, hj, hlt⟩ := ht
    exact ⟨j, fun e => hj (by rw [e]; rfl), hlt⟩
  obtain ⟨hd, hp⟩ := top_dist u hu i s hne
  rw [hsup, sims_coe x u hx, logDist_coe _ hp, hx i, hx s, sum_sq_coe, hd]

/-- The mean with its sign, taken in the kernel's order and in the reference's. -/
theorem mean_neg (S : EReal) : (0 - S) * ((1 / 4096 : ℝ) : EReal) = -(Ideal.div S ((4096 : ℝ) : EReal)) := by
  rw [Ideal.div_coe (by norm_num), zero_sub, EReal.neg_mul]

/-- On regular rows the reference's stages end in the kernel's number. -/
theorem stages_eq (x : Fin 4096 → Fin 256 → EReal) (h : Regular x) (a : FVec Ideal S4096x256 .f32) (ha : ∀ i k, a (ix2 i k) = x i k) :
    lossOf (differences (unitRows a) (nearest (tableOf (unitRows a)))) = fun _ => kernelLoss x := by
  obtain ⟨u, hx, hu, ht⟩ := regular_units x h
  have hrow : ∀ i k, unitRows a (ix2 i k) = unit (x i) k := fun i k => by
    rw [unitRows_apply, show (fun k => a (ix2 i k)) = x i from funext (ha i)]
  have htab : ∀ i j, tableOf (unitRows a) (ix2 i j) = sims x i j := fun i j => by
    rw [tableOf_apply]
    unfold sims dot
    exact if_congr Iff.rfl rfl (Finset.sum_congr rfl fun k _ => by rw [hrow, hrow])
  funext j
  rw [lossOf_apply]
  unfold kernelLoss
  rw [mean_neg]
  refine congrArg (fun z : EReal => -(Ideal.div z _)) (Finset.sum_congr rfl fun i _ => ?_)
  obtain ⟨s, hs, hmax, hfirst⟩ := nearest_apply (tableOf (unitRows a)) i
  rw [← row_term x u hx hu ht i s (fun j => by rw [← htab, ← htab]; exact hmax j) (fun j hj => by rw [← htab, ← htab]; exact hfirst j hj)]
  refine congrArg (fun z : EReal => Ideal.log (Ideal.sqrt z + eps)) (Finset.sum_congr rfl fun k _ => ?_)
  rw [differences_apply (unitRows a) _ i s hs k, hrow, hrow]

end Cert.Koleo

end
-- ==== Proof.Pre.lean ====
/-
  The precondition read back: where its printed test answers true, the rows are regular.
-/
module

public import proofs.«01_k».proof.Proof.Gen.Pre_regular
public import proofs.«01_k».proof.Proof.Regular
public import Idealize.ShloMosaic.Lib.ReduceAll
public import Idealize.ShloMosaic.Lib.Pipeline.Value

@[expose] public section

noncomputable section

open Idealize.ShloMosaic Idealize.ShloMosaic.ValueIdx
open scoped BigOperators

namespace Cert.Koleo

open Cert.Pre_regular Cert.Pre_regular.Gen

/-- A fold by `or` from zero that came out one met a one. -/
theorem fold_or_one {ι : Type} (f : ι → BitVec 1) :
    ∀ (l : List ι) (init : BitVec 1), l.foldl (fun r n => IntOp.ori r (f n)) init = 1#1 → init = 1#1 ∨ ∃ n ∈ l, f n = 1#1
  | [], _, h => .inl h
  | a :: l, init, h => by
    rcases fold_or_one f l _ h with h1 | ⟨n, hn, hf⟩
    · have key : ∀ p q : BitVec 1, IntOp.ori p q = 1#1 → p = 1#1 ∨ q = 1#1 := by decide
      rcases key _ _ h1 with h2 | h2
      · exact .inl h2
      · exact .inr ⟨a, List.mem_cons_self, h2⟩
    · exact .inr ⟨n, List.mem_cons_of_mem _ hn, hf⟩

/-- A test that some entry of an array holds true, answering true, has such an entry. -/
theorem any_one {s t u : Shape} {axes : List (Fin s.rank)} (x : s.Idx → BitVec 1) (init : u.Idx → BitVec 1) (h : s.ReducesTo axes t)
    (hu : 0 < u.numel) (j : t.Idx) (h0 : init (Shape.Idx.first hu) ≠ 1#1) (e : Host.reduce IntOp.ori x init h hu j = 1#1) :
    ∃ i, x i = 1#1 := by
  rw [Host.reduce_eq_foldl] at e
  rcases fold_or_one x _ _ e with q | ⟨n, _, hn⟩
  · exact absurd q h0
  · exact ⟨n, hn⟩

/-- The norms of the rows, an entry at a time. -/
theorem norms_apply (a : FVec Ideal S4096x256 .f32) (i : Fin 4096) : fn_norm (F := Ideal) a (ix1 i) = norm (fun k => a (ix2 i k)) := by
  unfold fn_norm norm
  refine congrArg Ideal.sqrt ((hostReduceAdd_apply _ _ _ _ _).trans ?_)
  rw [constant_apply, Ideal.ofBits_zero_f32, Ideal.hostReduceAdd_single _ (by decide), zero_add]
  refine Finset.sum_congr rfl fun k' _ => ?_
  have e : Shape.Reduces.lift (s := S4096x256) (t := S4096) (a := 1) (by decide) (ix1 i) k' = ix2 i k' := by
    funext q
    match q with
    | ⟨0, _⟩ => rfl
    | ⟨1, _⟩ => rfl
  exact congrArg (fun z => a z * a z) e

/-- Row `r + 1`. -/
def later (r : Fin 4095) : Fin 4096 := ⟨1 + r.val, by omega⟩

/-- The dot products of the first row with the later ones. -/
theorem firstDots_apply (a : FVec Ideal S4096x256 .f32) (r : Fin 4095) :
    Host.reduceAdd (mulf (broadcastInDim S4095x256 ![0, 1] bcast_S1x256_S4095x256_0_1 (extractStridedSlice S1x256 ![0, 0] a slices_S4096x256_S1x256_0_0))
      (extractStridedSlice S4095x256 ![1, 0] a slices_S4096x256_S4095x256_1_0)) (constant S_ .f32 0x00000000#32) reducesTo_S4095x256_S4095_d1 h_S_ (ix1 r)
      = dot (fun k => a (ix2 0 k)) (fun k => a (ix2 (later r) k)) := by
  unfold dot
  rw [hostReduceAdd_apply, constant_apply, Ideal.ofBits_zero_f32, Ideal.hostReduceAdd_single _ (by decide), zero_add]
  refine Finset.sum_congr rfl fun k _ => ?_
  have e : Shape.Reduces.lift (s := S4095x256) (t := S4095) (a := 1) (by decide) (ix1 r) k = ix2 r k := by
    funext q
    match q with
    | ⟨0, _⟩ => rfl
    | ⟨1, _⟩ => rfl
  rw [e]
  refine congrArg₂ (fun x y : EReal => x * y) ?_ ?_
  · refine (broadcastInDim_apply _ _ _ (ix2 r k) (ix2 0 k) fun q => by
      match q with
      | ⟨0, _⟩ => rfl
      | ⟨1, _⟩ => rfl).trans ?_
    exact extractStridedSlice_apply _ _ _ (ix2 0 k) (ix2 0 k) fun q => by
      match q with
      | ⟨0, _⟩ => rfl
      | ⟨1, _⟩ => exact (Nat.zero_add _).symm
  · exact extractStridedSlice_apply _ _ _ (ix2 r k) (ix2 (later r) k) fun q => by
      match q with
      | ⟨0, _⟩ => rfl
      | ⟨1, _⟩ => exact (Nat.zero_add _).symm

/-- The bounds that opposite rows would reach. -/
theorem firstBounds_apply (a : FVec Ideal S4096x256 .f32) (r : Fin 4095) :
    Host.negf (mulf (broadcastInDim S4095 ![0] bcast_S1_S4095_0 (extractStridedSlice S1 ![0] (fn_norm (F := Ideal) a) slices_S4096_S1_0))
      (extractStridedSlice S4095 ![1] (fn_norm (F := Ideal) a) slices_S4096_S4095_1)) (ix1 r)
      = -(norm (fun k => a (ix2 0 k)) * norm (fun k => a (ix2 (later r) k))) := by
  refine congrArg (fun z : EReal => -z) ?_
  rw [mulf_apply]
  refine congrArg₂ (fun x y : EReal => x * y) ?_ ?_
  · refine (broadcastInDim_apply _ _ _ (ix1 r) (ix1 0) fun q => by
      match q with
      | ⟨0, _⟩ => rfl).trans ?_
    refine (extractStridedSlice_apply _ _ _ (ix1 0) (ix1 0) fun q => by
      match q with
      | ⟨0, _⟩ => rfl).trans (norms_apply a 0)
  · exact (extractStridedSlice_apply _ _ _ (ix1 r) (ix1 (later r)) fun q => by
      match q with
      | ⟨0, _⟩ => rfl).trans (norms_apply a (later r))

/-- A true word of a truth value. -/
theorem of_word {p : Prop} [Decidable p] (h : BitVec.ofBool (decide p) = 1#1) : p := by
  by_contra q
  rw [decide_eq_false q] at h
  exact absurd h (by decide)

/-- Where the printed test answers true, the rows are regular. -/
theorem regular_of_pre (a : FVec Ideal S4096x256 .f32) (h : Cert.Pre_regular.fn (F := Ideal) a = fun _ => 1#1) :
    Regular (fun i k => a (ix2 i k)) := by
  have h' := congrFun h ix0
  unfold Cert.Pre_regular.fn fn_part1 at h'
  dsimp only at h'
  obtain ⟨h1, h2⟩ := IntOp.andi_eq_one.1 h'
  haveI : Subsingleton S_.Idx := ⟨fun p q => funext fun b => b.elim0⟩
  have hall := fun i : Fin 4096 => IntOp.andi_eq_one.1 (Host.reduce_andi_all _ _ _ _ _ h1 (ix1 i))
  obtain ⟨q, hq⟩ := any_one _ _ _ _ _ (by decide) h2
  obtain ⟨r, rfl⟩ : ∃ r : Fin 4095, q = ix1 r := ⟨q 0, eq_ix1 q⟩
  refine ⟨fun i => ?_, fun i => ?_, later r, fun e => by simp [later] at e, ?_⟩
  · have := of_word (hall i).1
    rw [norms_apply, broadcastInDim_scalar_apply, constant_apply] at this
    exact this
  · have := of_word (hall i).2
    rw [norms_apply, broadcastInDim_scalar_apply, constant_apply, ofBits_top] at this
    exact this
  · have := of_word hq
    rw [firstDots_apply, firstBounds_apply] at this
    exact this

end Cert.Koleo

end
-- ==== Proof.lean ====
/-
  The proof of `Cert.Claim`: the frames of the three programs, and the equation of the idealized kernel with the idealized
  reference on regular rows. The mathematics is in the modules that this one imports; here it is put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_regular
public import proofs.«01_k».proof.Proof.KernelValue
public import proofs.«01_k».proof.Proof.Equation
public import proofs.«01_k».proof.Proof.Pre
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The reference runs, leaves its argument as it was, and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's result is the loss of its rows, on every memory. -/
theorem kernel_loss (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v0) = (fun _ => Cert.Koleo.kernelLoss (Cert.Koleo.argRows m c))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) :=
  (θ_run Cert.KernelIdeal.defs _ _).mono
    (fun r h c => ⟨((h c).1.trans (Cert.Koleo.final_result m c)).trans (Cert.Koleo.result_eq m c), (h c).2⟩)
    (Cert.KernelIdeal.Value.run_blocks (F := Ideal) m ρ)

/-- Kernel and reference compute the same number from regular rows. -/
theorem same_loss : Cert.algebraic_KernelIdeal_ReferenceIdeal_pre_regular := by
  intro m ρ m' ρ' hpre hag
  refine ⟨fun c => fun _ => Cert.Koleo.kernelLoss (Cert.Koleo.argRows m c), kernel_loss m ρ, ?_⟩
  refine (θ_run Cert.ReferenceIdeal.defs _ _).mono (fun r h c => ⟨(h c).1.trans ?_, (h c).2⟩)
    (Cert.ReferenceIdeal.Value.run (F := Ideal) m' ρ')
  refine (Cert.Koleo.reference_stages m' c).trans ?_
  refine Cert.Koleo.stages_eq (Cert.Koleo.argRows m c) (Cert.Koleo.regular_of_pre _ (hpre c)) _ fun i k => ?_
  exact congrFun (hag c) (ix2 i k)

/-- All the claims. -/
theorem claim : Cert.Claim :=
  ⟨Cert.Kernel.Gen.facts, Cert.KernelIdeal.Gen.facts, Cert.ReferenceIdeal.Gen.facts, Cert.Pre_regular.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, same_loss⟩

end Cert.Proof

end
